-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 1024]⟩ ⟨2, ![8192, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S2x272x1024 : Shape := ⟨3, ![2, 272, 1024]⟩
abbrev S2x256x1024 : Shape := ⟨3, ![2, 256, 1024]⟩
abbrev S2x1x1024 : Shape := ⟨3, ![2, 1, 1024]⟩
abbrev S2x8x1024 : Shape := ⟨3, ![2, 8, 1024]⟩
abbrev S2 : Shape := ⟨1, ![2]⟩
abbrev S1 : Shape := ⟨1, ![1]⟩
abbrev S_ : Shape := ⟨0, ![]⟩
abbrev S1x8x1024 : Shape := ⟨3, ![1, 8, 1024]⟩
abbrev S8x1024 : Shape := ⟨2, ![8, 1024]⟩
abbrev S1x272x1024 : Shape := ⟨3, ![1, 272, 1024]⟩
abbrev S272x1024 : Shape := ⟨2, ![272, 1024]⟩
abbrev S1x1x1024 : Shape := ⟨3, ![1, 1, 1024]⟩
abbrev S1x1024 : Shape := ⟨2, ![1, 1024]⟩
abbrev S1x256x1024 : Shape := ⟨3, ![1, 256, 1024]⟩
abbrev S256x1024 : Shape := ⟨2, ![256, 1024]⟩
abbrev S1x264x1024 : Shape := ⟨3, ![1, 264, 1024]⟩
abbrev S264x1024 : Shape := ⟨2, ![264, 1024]⟩
abbrev S1x2x1024 : Shape := ⟨3, ![1, 2, 1024]⟩

abbrev nBuf : Space → Nat
  | .hbm => 2
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .local _ .vmem, ⟨0, _⟩ => ⟨S2x272x1024, .bf16⟩
  | .local _ .vmem, ⟨1, _⟩ => ⟨S2x256x1024, .bf16⟩
  | .local _ .vmem, ⟨2, _⟩ => ⟨S2x1x1024, .bf16⟩
  | .local _ .vmem, ⟨3, _⟩ => ⟨S2x8x1024, .bf16⟩
  | .local _ .vmem, ⟨4, _⟩ => ⟨S2x1x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 4
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v3 : BitVec 1 := Scalar.cmpi .sgt v2 c0_i32
  let v21 : BitVec 32 := Scalar.extui v3
  let c0_i32_16 : BitVec 32 := 0#32
  let v22 : BitVec 1 := Scalar.cmpi .ne v21 c0_i32_16
  v22

def k0_dev1 (d0 : Dev nD) : Nat :=
  let c0_i32_334 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_331 : BitVec 32 := 1#32
  let v342 : BitVec 32 := Scalar.subi v2 c1_i32_331
  let c1_i32_333 : BitVec 32 := 1#32
  let v343 : BitVec 32 := Scalar.muli v342 c1_i32_333
  let v344 : BitVec 32 := Scalar.addi c0_i32_334 v343
  v344.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v4 : BitVec 1 := Scalar.cmpi .slt v2 c3_i32
  let v23 : BitVec 32 := Scalar.extui v4
  let c0_i32_17 : BitVec 32 := 0#32
  let v24 : BitVec 1 := Scalar.cmpi .ne v23 c0_i32_17
  v24

def k0_dev2 (d0 : Dev nD) : Nat :=
  let c0_i32_334 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_331 : BitVec 32 := 1#32
  let v342 : BitVec 32 := Scalar.addi v2 c1_i32_331
  let c1_i32_333 : BitVec 32 := 1#32
  let v343 : BitVec 32 := Scalar.muli v342 c1_i32_333
  let v344 : BitVec 32 := Scalar.addi c0_i32_334 v343
  v344.toNat
def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v4 : BitVec 1 := Scalar.cmpi .slt v2 c3_i32
  let v39 : BitVec 32 := Scalar.extui v4
  let c0_i32_32 : BitVec 32 := 0#32
  let v40 : BitVec 1 := Scalar.cmpi .ne v39 c0_i32_32
  v40

def k0_dev3 (d0 : Dev nD) : Nat :=
  let c0_i32_343 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_337 : BitVec 32 := 1#32
  let v347 : BitVec 32 := Scalar.addi v2 c1_i32_337
  let c1_i32_342 : BitVec 32 := 1#32
  let v348 : BitVec 32 := Scalar.muli v347 c1_i32_342
  let v349 : BitVec 32 := Scalar.addi c0_i32_343 v348
  v349.toNat
def k0_cond6 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v3 : BitVec 1 := Scalar.cmpi .sgt v2 c0_i32
  let v41 : BitVec 32 := Scalar.extui v3
  let c0_i32_33 : BitVec 32 := 0#32
  let v42 : BitVec 1 := Scalar.cmpi .ne v41 c0_i32_33
  v42

def k0_dev4 (d0 : Dev nD) : Nat :=
  let c0_i32_343 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_337 : BitVec 32 := 1#32
  let v347 : BitVec 32 := Scalar.subi v2 c1_i32_337
  let c1_i32_342 : BitVec 32 := 1#32
  let v348 : BitVec 32 := Scalar.muli v347 c1_i32_342
  let v349 : BitVec 32 := Scalar.addi c0_i32_343 v348
  v349.toNat
-- ==== ReferenceIdeal.lean ====
abbrev S8192x1024 : Shape := ⟨2, ![8192, 1024]⟩
abbrev S8190x1024 : Shape := ⟨2, ![8190, 1024]⟩
abbrev S_ : Shape := ⟨0, ![]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8190x1024, .bf16⟩
  | .hbm, ⟨2, _⟩ => ⟨S_, .bf16⟩
  | .hbm, ⟨3, _⟩ => ⟨S8190x1024, .bf16⟩
  | .hbm, ⟨4, _⟩ => ⟨S8190x1024, .bf16⟩
  | .hbm, ⟨5, _⟩ => ⟨S8190x1024, .bf16⟩
  | .hbm, ⟨6, _⟩ => ⟨S_, .bf16⟩
  | .hbm, ⟨7, _⟩ => ⟨S8190x1024, .bf16⟩
  | .hbm, ⟨8, _⟩ => ⟨S8190x1024, .bf16⟩
  | .hbm, ⟨9, _⟩ => ⟨S8190x1024, .bf16⟩
  | .hbm, ⟨10, _⟩ => ⟨S8190x1024, .bf16⟩
  | .hbm, ⟨11, _⟩ => ⟨S_, .bf16⟩
  | .hbm, ⟨12, _⟩ => ⟨S8190x1024, .bf16⟩
  | .hbm, ⟨13, _⟩ => ⟨S8190x1024, .bf16⟩
  | .hbm, ⟨14, _⟩ => ⟨S8190x1024, .bf16⟩
  | .hbm, ⟨15, _⟩ => ⟨S1x1024, .bf16⟩
  | .hbm, ⟨16, _⟩ => ⟨S1x1024, .bf16⟩
  | .hbm, ⟨17, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Proof.KernelIdeal.Contents.lean ====
/- What the buffers of a device hold: the rows of the whole array by their global number, the
   blend of three neighbouring rows, and the coordinates the kernel's windows reach. -/
module

public import proofs.«01_k».proof.Proof.Gen.KernelIdeal.Skeleton
public import proofs.«01_k».proof.Proof.Gen.KernelIdeal.Launch
public import Idealize.ShloMosaic.Lib.Tactic
public import Idealize.ShloMosaic.Lib.ValueLayout
public import Idealize.ShloMosaic.Lib.ViewIndex
public import Idealize.ShloMosaic.Lib.Pointwise.ShapeOpsCore

@[expose] public section

noncomputable section

namespace Cert.KernelIdealProof

open Cert.KernelIdeal Cert.KernelIdeal.Gen
open Idealize.ShloMosaic Idealize.ShloMosaic.TcCoe
open Idealize.SL.Sem

variable {F : FTy → Type} [FloatOps F]

/-! ## Rows of the whole array -/

/-- Every device's block of rows. -/
abbrev Blocks (F : FTy → Type) : Type := Dev nD → S2048x1024.Idx → F .bf16

/-- Row `g` of the whole array, at a column: it lies in the block of device `g / 2048`. -/
def gx (X : Blocks F) (g : ℕ) (col : Fin 1024) : F .bf16 :=
  X ⟨g / 2048 % 4, Nat.mod_lt _ (by decide)⟩ (ValueIdx.ix2 (⟨g % 2048, Nat.mod_lt _ (by decide)⟩ : Fin 2048) col)

/-- Row `j 0` of device `c`'s block is row `2048 c + j 0` of the whole array. -/
theorem gx_block (X : Blocks F) (c : Dev nD) (j : S2048x1024.Idx) (g : ℕ) (col : Fin 1024)
    (hg : g = c.val * 2048 + (j 0).val) (hcol : col.val = (j 1).val) : gx X g col = X c j := by
  have h0 : (j 0).val < 2048 := (j 0).isLt
  have hc : c.val < 4 := c.isLt
  have e1 : (⟨g / 2048 % 4, Nat.mod_lt _ (by decide)⟩ : Dev nD) = c := Fin.ext (by
    show g / 2048 % 4 = c.val
    omega)
  have e2 : (ValueIdx.ix2 (⟨g % 2048, Nat.mod_lt _ (by decide)⟩ : Fin 2048) col : S2048x1024.Idx) = j := by
    rw [ValueIdx.eq_ix2 j]
    have a : (⟨g % 2048, Nat.mod_lt _ (by decide)⟩ : Fin 2048) = j 0 := Fin.ext (by
      show g % 2048 = (j 0).val
      omega)
    have b : col = j 1 := Fin.ext hcol
    rw [a, b]
    rfl
  unfold gx
  rw [e1, e2]

/-- The blend of a row with the rows before and after it. -/
def blend (a b d : F .bf16) : F .bf16 :=
  FloatOps.addf (FloatOps.mulf (FloatOps.addf a d) (Scalar.ofBits .bf16 0x3E80#16))
    (FloatOps.mulf b (Scalar.ofBits .bf16 0x3F00#16))

/-- Row `g` of the result: the first and last rows of the array stay, every other one is blended. -/
def specRow (X : Blocks F) (g : ℕ) (col : Fin 1024) : F .bf16 :=
  if g = 0 ∨ g = 8191 then gx X g col else blend (gx X (g - 1) col) (gx X g col) (gx X (g + 1) col)

/-- Device `c`'s block of the result. -/
def specBlock (X : Blocks F) (c : Dev nD) : S2048x1024.Idx → F .bf16 :=
  fun j => specRow X (c.val * 2048 + (j 0).val) ⟨(j 1).val, (j 1).isLt⟩

/-- Slot `s` of the input buffer holds, at its rows `lo ≤ i < hi`, block `b`'s window of the array,
    whose row `i` is row `256 b + i - 8` of the device's block. -/
def InHas (X : Blocks F) (c : Dev nD) (b s lo hi : ℕ) (f : S2x272x1024.Idx → F .bf16) : Prop :=
  ∀ i : S2x272x1024.Idx, (i 0).val = s → lo ≤ (i 1).val → (i 1).val < hi →
    f i = gx X (c.val * 2048 + b * 256 + (i 1).val - 8) ⟨(i 2).val, (i 2).isLt⟩

/-- Slot `s` of the output buffer holds, at its rows `lo ≤ i < hi`, block `b` of the result. -/
def OutHas (X : Blocks F) (c : Dev nD) (b s lo hi : ℕ) (f : S2x256x1024.Idx → F .bf16) : Prop :=
  ∀ i : S2x256x1024.Idx, (i 0).val = s → lo ≤ (i 1).val → (i 1).val < hi →
    f i = specRow X (c.val * 2048 + b * 256 + (i 1).val) ⟨(i 2).val, (i 2).isLt⟩

/-- The staged rows: the first eight rows of the device's block, then its last eight. -/
def stageOf (X : Blocks F) (c : Dev nD) : S2x8x1024.Idx → F .bf16 :=
  fun i => gx X (c.val * 2048 + (if (i 0).val = 0 then 0 else 2040) + (i 1).val) ⟨(i 2).val, (i 2).isLt⟩

/-- Slot `s` of the neighbour rows holds row `g` of the array. -/
def HaloHas (X : Blocks F) (g s : ℕ) (f : S2x1x1024.Idx → F .bf16) : Prop :=
  ∀ i : S2x1x1024.Idx, (i 0).val = s → f i = gx X g ⟨(i 2).val, (i 2).isLt⟩

/-! ## The windows' elements -/

/-- The elements of a two-slot buffer at slot `s`, rows `lo ≤ i < hi`. -/
def rows3 (n s lo hi : ℕ) : Finset (⟨3, ![2, n, 1024]⟩ : Shape).Idx :=
  Finset.univ.filter fun i => (i 0).val = s ∧ lo ≤ (i 1).val ∧ (i 1).val < hi

theorem mem_rows3 {n s lo hi : ℕ} (i : (⟨3, ![2, n, 1024]⟩ : Shape).Idx) :
    i ∈ rows3 n s lo hi ↔ (i 0).val = s ∧ lo ≤ (i 1).val ∧ (i 1).val < hi := by
  simp [rows3]

/-- The elements of a block at rows `lo ≤ i < hi`. -/
def rows2 (lo hi : ℕ) : Finset S2048x1024.Idx :=
  Finset.univ.filter fun i => lo ≤ (i 0).val ∧ (i 0).val < hi

theorem mem_rows2 {lo hi : ℕ} (i : S2048x1024.Idx) : i ∈ rows2 lo hi ↔ lo ≤ (i 0).val ∧ (i 0).val < hi := by
  simp [rows2]

/-- A window of `k` rows of one slot from row `r` is those elements. -/
theorem rect3_set {n s r k : ℕ} (h : ∀ a, (![s, r, 0] : Fin 3 → ℕ) a + (![1, k, 1024] : Fin 3 → ℕ) a ≤ (⟨3, ![2, n, 1024]⟩ : Shape).size a) :
    (Rect.unit (s := ⟨3, ![2, n, 1024]⟩) ![s, r, 0] ![1, k, 1024] h).set = rows3 n s r (r + k) := by
  ext i
  rw [Rect.mem_set_unit, mem_rows3]
  have h2 : (i 2).val < 1024 := (i 2).isLt
  constructor
  · intro hi
    have a0 := hi 0
    have a1 := hi 1
    simp at a0 a1
    omega
  · rintro ⟨e0, e1, e2⟩ a
    fin_cases a
    · show s ≤ (i 0).val ∧ (i 0).val < s + 1
      omega
    · exact ⟨e1, e2⟩
    · show 0 ≤ (i 2).val ∧ (i 2).val < 0 + 1024
      omega

/-- A window of `k` rows of a block from row `r` is those elements. -/
theorem rect2_set {r k : ℕ} (h : ∀ a, (![r, 0] : Fin 2 → ℕ) a + (![k, 1024] : Fin 2 → ℕ) a ≤ S2048x1024.size a) :
    (Rect.unit (s := S2048x1024) ![r, 0] ![k, 1024] h).set = rows2 r (r + k) := by
  ext i
  rw [Rect.mem_set_unit, mem_rows2]
  have h2 : (i 1).val < 1024 := (i 1).isLt
  constructor
  · intro hi
    exact hi 0
  · intro e a
    fin_cases a
    · exact e
    · show 0 ≤ (i 1).val ∧ (i 1).val < 0 + 1024
      omega

/-! ## What a window reads and writes

`M` is a whole buffer. Element `x` of a window of `k` rows from row `r` of slot `s` is the buffer's element `i`
whose coordinates the hypotheses name. -/

section Windows

variable {sp : Space} {n s r k : ℕ} (M : Memref sig .tc sp ⟨3, ![2, n, 1024]⟩ .bf16)
  (h : ∀ a, (![s, r, 0] : Fin 3 → ℕ) a + (![1, k, 1024] : Fin 3 → ℕ) a ≤ (⟨3, ![2, n, 1024]⟩ : Shape).size a)

theorem rect3_emb (x : (⟨3, ![1, k, 1024]⟩ : Shape).Idx) (i : (⟨3, ![2, n, 1024]⟩ : Shape).Idx)
    (h0 : (i 0).val = s) (h1 : (i 1).val = r + (x 1).val) (h2 : (i 2).val = (x 2).val) :
    (Rect.unit (s := ⟨3, ![2, n, 1024]⟩) ![s, r, 0] ![1, k, 1024] h).emb x = i := by
  have hx : (x 0).val < 1 := (x 0).isLt
  funext a
  apply Fin.ext
  rw [Rect.emb_apply]
  fin_cases a
  · show s + 1 * (x 0).val = (i 0).val
    omega
  · show r + 1 * (x 1).val = (i 1).val
    omega
  · show 0 + 1 * (x 2).val = (i 2).val
    omega

/-- A load of a slot's rows reads the buffer there. -/
theorem read_slot (f : M.view.ty.Contents (Elt F)) (x : (⟨3, ![1, k, 1024]⟩ : Shape).Idx) (i : (⟨3, ![2, n, 1024]⟩ : Shape).Idx)
    (h0 : (i 0).val = s) (h1 : (i 1).val = r + (x 1).val) (h2 : (i 2).val = (x 2).val) :
    M.view.readAt (Elt F) (Rect.unit (s := ⟨3, ![2, n, 1024]⟩) ![s, r, 0] ![1, k, 1024] h).toLoadRect f x = M.view.read (Elt F) f i := by
  rw [View.readAt_rect, View.read_apply, View.read_apply, View.emb_slice]
  show _root_.cast _ (f (M.view.emb ((Rect.unit (s := ⟨3, ![2, n, 1024]⟩) ![s, r, 0] ![1, k, 1024] h).emb x))) = _
  rw [rect3_emb h x i h0 h1 h2]

/-- A store of a slot's rows puts its value there. -/
theorem write_slot (f : M.view.ty.Contents (Elt F)) (w : (⟨3, ![1, k, 1024]⟩ : Shape).Idx → Elt F .bf16)
    (x : (⟨3, ![1, k, 1024]⟩ : Shape).Idx) (i : (⟨3, ![2, n, 1024]⟩ : Shape).Idx)
    (h0 : (i 0).val = s) (h1 : (i 1).val = r + (x 1).val) (h2 : (i 2).val = (x 2).val) :
    M.view.read (Elt F) ((M.access (Rect.unit (s := ⟨3, ![2, n, 1024]⟩) ![s, r, 0] ![1, k, 1024] h)).write (Elt F) f w Finset.univ) i = w x := by
  have e : M.view.emb i = (M.access (Rect.unit (s := ⟨3, ![2, n, 1024]⟩) ![s, r, 0] ![1, k, 1024] h)).emb x := by
    show M.view.emb i = M.view.emb ((Rect.unit (s := ⟨3, ![2, n, 1024]⟩) ![s, r, 0] ![1, k, 1024] h).emb x)
    rw [rect3_emb h x i h0 h1 h2]
  rw [View.read_apply]
  refine Eq.trans (congrArg (fun z => _root_.cast _ ((M.access (Rect.unit (s := ⟨3, ![2, n, 1024]⟩) ![s, r, 0] ![1, k, 1024] h)).write (Elt F) f w Finset.univ z)) e) ?_
  rw [View.write_emb_of_mem _ _ (Finset.mem_univ x), cast_cast, cast_eq]

/-- A store of a slot's rows leaves every other element. -/
theorem write_slot_off (f : M.view.ty.Contents (Elt F)) (w : (⟨3, ![1, k, 1024]⟩ : Shape).Idx → Elt F .bf16)
    (i : (⟨3, ![2, n, 1024]⟩ : Shape).Idx) (hi : ¬ ((i 0).val = s ∧ r ≤ (i 1).val ∧ (i 1).val < r + k)) :
    M.view.read (Elt F) ((M.access (Rect.unit (s := ⟨3, ![2, n, 1024]⟩) ![s, r, 0] ![1, k, 1024] h)).write (Elt F) f w Finset.univ) i = M.view.read (Elt F) f i := by
  rw [View.read_apply, View.read_apply]
  congr 1
  apply View.write_of_not_mem
  rw [View.setOn_univ, View.set_slice]
  intro hm
  rw [rect3_set, Finset.mem_map] at hm
  obtain ⟨j, hj, he⟩ := hm
  exact hi ((mem_rows3 i).1 (M.view.emb.injective he ▸ hj))

variable (hu : ∀ a, (Rect.unit (s := ⟨3, ![2, n, 1024]⟩) ![s, r, 0] ![1, k, 1024] h).stride a = 1)
  (sq : (⟨3, ![1, k, 1024]⟩ : Shape).Squeezes ⟨2, ![k, 1024]⟩)

theorem emb_win3 (x : (⟨2, ![k, 1024]⟩ : Shape).Idx) (i : (⟨3, ![2, n, 1024]⟩ : Shape).Idx)
    (h0 : (i 0).val = s) (h1 : (i 1).val = r + (x 0).val) (h2 : (i 2).val = (x 1).val) :
    ((M.slice (Rect.unit (s := ⟨3, ![2, n, 1024]⟩) ![s, r, 0] ![1, k, 1024] h) hu).squeeze ⟨2, ![k, 1024]⟩ sq).view.emb x = M.view.emb i := by
  show M.view.emb ((Rect.unit (s := ⟨3, ![2, n, 1024]⟩) ![s, r, 0] ![1, k, 1024] h).emb (Shape.reshapeEquiv _ x)) = _
  congr 1
  have e : Shape.reshapeEquiv (Shape.Squeezes.numel_eq sq) x = ValueIdx.ix3 (⟨0, Nat.one_pos⟩ : Fin 1) (x 0) (x 1) :=
    (congrArg _ (ValueIdx.eq_ix2 x)).trans (ValueIdx.reshapeEquiv_ix2_1ab _ (x 0) (x 1))
  exact (congrArg _ e).trans (rect3_emb h _ i h0 h1 h2)

/-- A transfer out of a slot's rows reads the buffer there. -/
theorem read_win3 (f : M.view.ty.Contents (Elt F)) (x : (⟨2, ![k, 1024]⟩ : Shape).Idx) (i : (⟨3, ![2, n, 1024]⟩ : Shape).Idx)
    (h0 : (i 0).val = s) (h1 : (i 1).val = r + (x 0).val) (h2 : (i 2).val = (x 1).val) :
    ((M.slice (Rect.unit (s := ⟨3, ![2, n, 1024]⟩) ![s, r, 0] ![1, k, 1024] h) hu).squeeze ⟨2, ![k, 1024]⟩ sq).view.read (Elt F) f x
      = M.view.read (Elt F) f i := by
  rw [View.read_apply, View.read_apply, emb_win3 M h hu sq x i h0 h1 h2]

/-- A transfer into a slot's rows puts what it carries there. -/
theorem write_win3 (f : M.view.ty.Contents (Elt F)) (w : (⟨2, ![k, 1024]⟩ : Shape).Idx → Elt F .bf16)
    (x : (⟨2, ![k, 1024]⟩ : Shape).Idx) (i : (⟨3, ![2, n, 1024]⟩ : Shape).Idx)
    (h0 : (i 0).val = s) (h1 : (i 1).val = r + (x 0).val) (h2 : (i 2).val = (x 1).val) :
    M.view.read (Elt F) (((M.slice (Rect.unit (s := ⟨3, ![2, n, 1024]⟩) ![s, r, 0] ![1, k, 1024] h) hu).squeeze ⟨2, ![k, 1024]⟩ sq).view.write (Elt F) f w Finset.univ) i
      = w x := by
  rw [View.read_apply]
  refine Eq.trans (congrArg (fun z => _root_.cast _ (((M.slice (Rect.unit (s := ⟨3, ![2, n, 1024]⟩) ![s, r, 0] ![1, k, 1024] h) hu).squeeze ⟨2, ![k, 1024]⟩ sq).view.write (Elt F) f w Finset.univ z))
    (emb_win3 M h hu sq x i h0 h1 h2).symm) ?_
  rw [View.write_emb_of_mem _ _ (Finset.mem_univ x), cast_cast, cast_eq]

end Windows

section Rows

variable {sp : Space} {r k : ℕ} (M : Memref sig .tc sp S2048x1024 .bf16)
  (h : ∀ a, (![r, 0] : Fin 2 → ℕ) a + (![k, 1024] : Fin 2 → ℕ) a ≤ S2048x1024.size a)
  (hu : ∀ a, (Rect.unit (s := S2048x1024) ![r, 0] ![k, 1024] h).stride a = 1)

theorem emb_win2 (x : (⟨2, ![k, 1024]⟩ : Shape).Idx) (i : S2048x1024.Idx)
    (h0 : (i 0).val = r + (x 0).val) (h1 : (i 1).val = (x 1).val) :
    (M.slice (Rect.unit (s := S2048x1024) ![r, 0] ![k, 1024] h) hu).view.emb x = M.view.emb i := by
  show M.view.emb ((Rect.unit (s := S2048x1024) ![r, 0] ![k, 1024] h).emb x) = _
  congr 1
  funext a
  apply Fin.ext
  rw [Rect.emb_apply]
  fin_cases a
  · show r + 1 * (x 0).val = (i 0).val
    omega
  · show 0 + 1 * (x 1).val = (i 1).val
    omega

/-- A transfer out of a block's rows reads the block there. -/
theorem read_win2 (f : M.view.ty.Contents (Elt F)) (x : (⟨2, ![k, 1024]⟩ : Shape).Idx) (i : S2048x1024.Idx)
    (h0 : (i 0).val = r + (x 0).val) (h1 : (i 1).val = (x 1).val) :
    (M.slice (Rect.unit (s := S2048x1024) ![r, 0] ![k, 1024] h) hu).view.read (Elt F) f x = M.view.read (Elt F) f i := by
  rw [View.read_apply, View.read_apply, emb_win2 M h hu x i h0 h1]

/-- A transfer into a block's rows puts what it carries there. -/
theorem write_win2 (f : M.view.ty.Contents (Elt F)) (w : (⟨2, ![k, 1024]⟩ : Shape).Idx → Elt F .bf16)
    (x : (⟨2, ![k, 1024]⟩ : Shape).Idx) (i : S2048x1024.Idx)
    (h0 : (i 0).val = r + (x 0).val) (h1 : (i 1).val = (x 1).val) :
    M.view.read (Elt F) ((M.slice (Rect.unit (s := S2048x1024) ![r, 0] ![k, 1024] h) hu).view.write (Elt F) f w Finset.univ) i = w x := by
  rw [View.read_apply]
  refine Eq.trans (congrArg (fun z => _root_.cast _ ((M.slice (Rect.unit (s := S2048x1024) ![r, 0] ![k, 1024] h) hu).view.write (Elt F) f w Finset.univ z))
    (emb_win2 M h hu x i h0 h1).symm) ?_
  rw [View.write_emb_of_mem _ _ (Finset.mem_univ x), cast_cast, cast_eq]

end Rows

end Cert.KernelIdealProof
-- ==== Proof.KernelIdeal.Blocks.lean ====
/- What the kernel's transfers and stores leave in each buffer, stated by the rows of the whole
   array: a window copied in, a block computed, a neighbour's row put in, a block copied out. -/
module

public import proofs.«01_k».proof.Proof.KernelIdeal.Contents

@[expose] public section

noncomputable section

namespace Cert.KernelIdealProof

open Cert.KernelIdeal Cert.KernelIdeal.Gen
open Idealize.ShloMosaic Idealize.ShloMosaic.TcCoe
open Idealize.SL.Sem

variable {F : FTy → Type} [FloatOps F]

/-! ## The buffers -/

/-- The device's block of the argument, its block of the result, and the scratch buffers. -/
abbrev xM : Memref sig .tc .hbm S2048x1024 .bf16 := Memref.whole main_arg0
abbrev resM : Memref sig .tc .hbm S2048x1024 .bf16 := Memref.whole main_v1
abbrev inM : Memref sig .tc .vmem S2x272x1024 .bf16 := Memref.whole cc0_scratch0
abbrev outM : Memref sig .tc .vmem S2x256x1024 .bf16 := Memref.whole cc0_scratch1
abbrev haloM : Memref sig .tc .vmem S2x1x1024 .bf16 := Memref.whole cc0_scratch2
abbrev stageM : Memref sig .tc .vmem S2x8x1024 .bf16 := Memref.whole cc0_scratch3
abbrev edgeM : Memref sig .tc .vmem S2x1x1024 .bf16 := Memref.whole cc0_scratch4

/-- A window of `k` rows of a block, from row `r`. -/
abbrev rowsOf {sp : Space} (M : Memref sig .tc sp S2048x1024 .bf16) (r k : ℕ)
    (h : ∀ a, (![r, 0] : Fin 2 → ℕ) a + (![k, 1024] : Fin 2 → ℕ) a ≤ S2048x1024.size a) : Memref sig .tc sp ⟨2, ![k, 1024]⟩ .bf16 :=
  M.slice (Rect.unit (s := S2048x1024) ![r, 0] ![k, 1024] h) (fun _ => rfl)

/-- A window of `k` rows of slot `s` of a buffer, from row `r`. -/
abbrev slotOf {sp : Space} {n : ℕ} (M : Memref sig .tc sp ⟨3, ![2, n, 1024]⟩ .bf16) (s r k : ℕ)
    (h : ∀ a, (![s, r, 0] : Fin 3 → ℕ) a + (![1, k, 1024] : Fin 3 → ℕ) a ≤ (⟨3, ![2, n, 1024]⟩ : Shape).size a)
    (sq : (⟨3, ![1, k, 1024]⟩ : Shape).Squeezes ⟨2, ![k, 1024]⟩) : Memref sig .tc sp ⟨2, ![k, 1024]⟩ .bf16 :=
  (M.slice (Rect.unit (s := ⟨3, ![2, n, 1024]⟩) ![s, r, 0] ![1, k, 1024] h) (fun _ => rfl)).squeeze ⟨2, ![k, 1024]⟩ sq

section Sets
variable {s r k : ℕ}

theorem x_set (h) : (rowsOf xM r k h).view.set = rows2 r (r + k) := (View.set_slice_whole _ _).trans (rect2_set h)
theorem res_set (h) : (rowsOf resM r k h).view.set = rows2 r (r + k) := (View.set_slice_whole _ _).trans (rect2_set h)
theorem in_set (h sq) : (slotOf inM s r k h sq).view.set = rows3 272 s r (r + k) :=
  (View.set_reshape _ _).trans ((View.set_slice_whole _ _).trans (rect3_set h))
theorem out_set (h sq) : (slotOf outM s r k h sq).view.set = rows3 256 s r (r + k) :=
  (View.set_reshape _ _).trans ((View.set_slice_whole _ _).trans (rect3_set h))
theorem halo_set (h sq) : (slotOf haloM s r k h sq).view.set = rows3 1 s r (r + k) :=
  (View.set_reshape _ _).trans ((View.set_slice_whole _ _).trans (rect3_set h))
theorem stage_set (h sq) : (slotOf stageM s r k h sq).view.set = rows3 8 s r (r + k) :=
  (View.set_reshape _ _).trans ((View.set_slice_whole _ _).trans (rect3_set h))
theorem edge_set (h sq) : (slotOf edgeM s r k h sq).view.set = rows3 1 s r (r + k) :=
  (View.set_reshape _ _).trans ((View.set_slice_whole _ _).trans (rect3_set h))

end Sets

/-! A whole buffer is read as it is. -/

theorem x_id (f : S2048x1024.Idx → F .bf16) : xM.view.read (Elt F) f = f := rfl
theorem res_id (f : S2048x1024.Idx → F .bf16) : resM.view.read (Elt F) f = f := rfl
theorem in_id (f : S2x272x1024.Idx → F .bf16) : inM.view.read (Elt F) f = f := rfl
theorem out_id (f : S2x256x1024.Idx → F .bf16) : outM.view.read (Elt F) f = f := rfl
theorem halo_id (f : S2x1x1024.Idx → F .bf16) : haloM.view.read (Elt F) f = f := rfl
theorem stage_id (f : S2x8x1024.Idx → F .bf16) : stageM.view.read (Elt F) f = f := rfl
theorem edge_id (f : S2x1x1024.Idx → F .bf16) : edgeM.view.read (Elt F) f = f := rfl

/-! ## A window copied in -/

/-- The value a window of the device's block carries at its element `x`. -/
theorem x_read (X : Blocks F) (c : Dev nD) {r0 k : ℕ} (hx) (x : (⟨2, ![k, 1024]⟩ : Shape).Idx) :
    (rowsOf xM r0 k hx).view.read (Elt F) (X c) x = gx X (c.val * 2048 + r0 + (x 0).val) ⟨(x 1).val, (x 1).isLt⟩ := by
  have hb : r0 + k ≤ 2048 := hx 0
  have h0 : (x 0).val < k := (x 0).isLt
  refine (read_win2 xM hx _ (X c) x (ValueIdx.ix2 (⟨r0 + (x 0).val, by omega⟩ : Fin 2048) (⟨(x 1).val, (x 1).isLt⟩ : Fin 1024)) rfl rfl).trans ?_
  rw [x_id]
  exact (gx_block X c _ _ _ (by show _ = c.val * 2048 + (r0 + (x 0).val); omega) rfl).symm

/-- A window copied into a slot: its rows are the array's. -/
theorem fill_in (X : Blocks F) (c : Dev nD) {b s r k r0 : ℕ} (hx h sq) (hr : r0 + 8 = b * 256 + r) (fd : S2x272x1024.Idx → F .bf16) :
    InHas X c b s r (r + k) ((slotOf inM s r k h sq).view.write (Elt F) fd ((rowsOf xM r0 k hx).view.read (Elt F) (X c)) Finset.univ) := by
  intro i h0 h1 h2
  have h3 : (i 2).val < 1024 := (i 2).isLt
  refine (congrFun (in_id _) i).symm.trans ?_
  refine (write_win3 inM h _ sq fd _ (ValueIdx.ix2 (⟨(i 1).val - r, by omega⟩ : Fin k) (⟨(i 2).val, h3⟩ : Fin 1024)) i h0
    (by show _ = r + ((i 1).val - r); omega) rfl).trans ?_
  rw [x_read]
  congr 1
  show c.val * 2048 + r0 + ((i 1).val - r) = _
  omega

/-- The first and the last eight rows copied into the staging slots. -/
theorem fill_stage (X : Blocks F) (c : Dev nD) {s r0 : ℕ} (hx h sq) (hr : r0 = if s = 0 then 0 else 2040) (fd : S2x8x1024.Idx → F .bf16) :
    ∀ i ∈ rows3 8 s 0 8, ((slotOf stageM s 0 8 h sq).view.write (Elt F) fd ((rowsOf xM r0 8 hx).view.read (Elt F) (X c)) Finset.univ) i
      = stageOf X c i := by
  intro i hi
  obtain ⟨h0, h1, h2⟩ := (mem_rows3 i).1 hi
  have h3 : (i 2).val < 1024 := (i 2).isLt
  refine (congrFun (stage_id _) i).symm.trans ?_
  refine (write_win3 stageM h _ sq fd _ (ValueIdx.ix2 (⟨(i 1).val, h2⟩ : Fin 8) (⟨(i 2).val, h3⟩ : Fin 1024)) i h0
    (by show _ = 0 + (i 1).val; omega) rfl).trans ?_
  rw [x_read, hr]
  unfold stageOf
  rw [h0]

/-! ## A block computed -/

/-- The stored block, element by element: the blend of the three rows read. -/
theorem pay_apply (u v w : (S1x256x1024).Idx → F .bf16) (x : (S1x256x1024).Idx) :
    k0_pay3 u v w x = blend (u x) (v x) (w x) := by
  have key : ∀ (p : Fin 256) (q : Fin 1024) (y : S1x256x1024.Idx → F .bf16), shapeCast S256x1024 y shapeCasts_S1x256x1024_S256x1024 (ValueIdx.ix2 p q)
      = y (ValueIdx.ix3 (⟨0, Nat.one_pos⟩ : Fin 1) p q) := fun p q y => ValueIdx.shapeCast_1ab_ab_apply y _ p q
  have main : ∀ (p : Fin 256) (q : Fin 1024), k0_pay3 u v w (ValueIdx.ix3 (⟨0, Nat.one_pos⟩ : Fin 1) p q)
      = blend (u (ValueIdx.ix3 (⟨0, Nat.one_pos⟩ : Fin 1) p q)) (v (ValueIdx.ix3 (⟨0, Nat.one_pos⟩ : Fin 1) p q)) (w (ValueIdx.ix3 (⟨0, Nat.one_pos⟩ : Fin 1) p q)) := by
    intro p q
    unfold k0_pay3
    refine (ValueIdx.shapeCast_ab_1ab_apply _ _ _ p q).trans ?_
    show FloatOps.addf (FloatOps.mulf (FloatOps.addf _ _) _) (FloatOps.mulf _ _) = _
    rw [key p q u, key p q v, key p q w]
    rfl
  have hx : x = ValueIdx.ix3 (⟨0, Nat.one_pos⟩ : Fin 1) (⟨(x 1).val, (x 1).isLt⟩ : Fin 256) (⟨(x 2).val, (x 2).isLt⟩ : Fin 1024) := by
    funext a
    fin_cases a
    · exact Fin.ext (Nat.lt_one_iff.1 (x 0).isLt)
    · rfl
    · rfl
  rw [hx]
  exact main _ _

/-- A block computed from a slot whose rows are the array's: the result's block, as far as the rows reach. -/
theorem compute_out (X : Blocks F) (c : Dev nD) {b s lo hi : ℕ} (f : S2x272x1024.Idx → F .bf16) (g : S2x256x1024.Idx → F .bf16)
    (h7 h8 h9 ho) (w : S1x256x1024.Idx → F .bf16) (hf : InHas X c b s lo hi f) (hlo : lo ≤ 8)
    (hw : w = k0_pay3 (inM.view.readAt (Elt F) (Rect.unit (s := S2x272x1024) ![s, 7, 0] S1x256x1024.size h7).toLoadRect f)
      (inM.view.readAt (Elt F) (Rect.unit (s := S2x272x1024) ![s, 8, 0] S1x256x1024.size h8).toLoadRect f)
      (inM.view.readAt (Elt F) (Rect.unit (s := S2x272x1024) ![s, 9, 0] S1x256x1024.size h9).toLoadRect f))
    (hg : ∀ r, r < 256 → lo ≤ r + 7 → r + 9 < hi → c.val * 2048 + b * 256 + r ≠ 0 ∧ c.val * 2048 + b * 256 + r ≠ 8191) :
    ∀ i : S2x256x1024.Idx, (i 0).val = s → lo ≤ (i 1).val + 7 → (i 1).val + 9 < hi →
      ((outM.access (Rect.unit (s := S2x256x1024) ![s, 0, 0] S1x256x1024.size ho)).write (Elt F) g w Finset.univ) i
        = specRow X (c.val * 2048 + b * 256 + (i 1).val) ⟨(i 2).val, (i 2).isLt⟩ := by
  intro i h0 h1 h2
  have hi1 : (i 1).val < 256 := (i 1).isLt
  have hi2 : (i 2).val < 1024 := (i 2).isLt
  have hs : (i 0).val < 2 := (i 0).isLt
  set x : S1x256x1024.Idx := ValueIdx.ix3 (⟨0, Nat.one_pos⟩ : Fin 1) (⟨(i 1).val, hi1⟩ : Fin 256) (⟨(i 2).val, hi2⟩ : Fin 1024) with hx
  refine (congrFun (out_id _) i).symm.trans ?_
  refine (write_slot outM ho g w x i h0 (by show _ = 0 + (i 1).val; omega) rfl).trans ?_
  have rd : ∀ (q : ℕ) (hq) (hq7 : 7 ≤ q) (hq9 : q ≤ 9),
      inM.view.readAt (Elt F) (Rect.unit (s := S2x272x1024) ![s, q, 0] S1x256x1024.size hq).toLoadRect f x
        = gx X (c.val * 2048 + b * 256 + (q + (i 1).val) - 8) ⟨(i 2).val, hi2⟩ := by
    intro q hq hq7 hq9
    refine (read_slot inM hq f x (ValueIdx.ix3 (⟨s, by omega⟩ : Fin 2) (⟨q + (i 1).val, by omega⟩ : Fin 272) (⟨(i 2).val, hi2⟩ : Fin 1024)) rfl rfl rfl).trans ?_
    rw [in_id]
    exact hf _ rfl (by show lo ≤ q + (i 1).val; omega) (by show q + (i 1).val < hi; omega)
  rw [hw, pay_apply, rd 7 h7 (by omega) (by omega), rd 8 h8 (by omega) (by omega), rd 9 h9 (by omega) (by omega)]
  obtain ⟨g0, g1⟩ := hg (i 1).val hi1 h1 h2
  unfold specRow
  rw [if_neg (by omega)]
  congr 2 <;> omega

/-! ## A row put in -/

/-- A row stored by way of the pair of rows that holds it: that row changes and no other element does. -/
theorem put_row {n s r p : ℕ} (M : Memref sig .tc .vmem ⟨3, ![2, n, 1024]⟩ .bf16) (h) (hp : p < 2) (f : M.view.ty.Contents (Elt F))
    (w : S1x1x1024.Idx → F .bf16) (hs : S1x2x1024.Slices ![0, p, 0] S1x1x1024) (i : (⟨3, ![2, n, 1024]⟩ : Shape).Idx) :
    M.view.read (Elt F) ((M.access (Rect.unit (s := ⟨3, ![2, n, 1024]⟩) ![s, r, 0] S1x2x1024.size h)).write (Elt F) f
      (updateSlice (s := S1x2x1024) (M.view.readAt (Elt F) (Rect.unit (s := ⟨3, ![2, n, 1024]⟩) ![s, r, 0] S1x2x1024.size h).toLoadRect f) w ![0, p, 0] hs) Finset.univ) i
      = if (i 0).val = s ∧ (i 1).val = r + p then w (ValueIdx.ix3 (⟨0, Nat.one_pos⟩ : Fin 1) (⟨0, Nat.one_pos⟩ : Fin 1) (⟨(i 2).val, (i 2).isLt⟩ : Fin 1024))
        else M.view.read (Elt F) f i := by
  have hi2 : (i 2).val < 1024 := (i 2).isLt
  by_cases hin : (i 0).val = s ∧ r ≤ (i 1).val ∧ (i 1).val < r + 2
  · obtain ⟨h0, h1, h2⟩ := hin
    set x : S1x2x1024.Idx := ValueIdx.ix3 (⟨0, Nat.one_pos⟩ : Fin 1) (⟨(i 1).val - r, by omega⟩ : Fin 2) (⟨(i 2).val, hi2⟩ : Fin 1024) with hx
    have e1 : (i 1).val = r + (x 1).val := by show _ = r + ((i 1).val - r); omega
    refine (write_slot M h f _ x i h0 e1 rfl).trans ?_
    unfold updateSlice
    by_cases hr : (i 1).val = r + p
    · rw [if_pos ⟨h0, hr⟩, dif_pos]
      · congr 1
        funext a
        fin_cases a
        · rfl
        · exact Fin.ext (by show (i 1).val - r - p = 0; omega)
        · rfl
      · intro a
        fin_cases a
        · exact ⟨le_refl _, Nat.one_pos⟩
        · show p ≤ (i 1).val - r ∧ (i 1).val - r < p + 1
          omega
        · exact ⟨Nat.zero_le _, by show (i 2).val < 0 + 1024; omega⟩
    · rw [if_neg (fun hh => hr hh.2), dif_neg]
      · exact read_slot M h f x i h0 e1 rfl
      · intro ha
        have := ha 1
        have a1 : p ≤ (i 1).val - r ∧ (i 1).val - r < p + 1 := this
        omega
  · rw [if_neg (fun hh => hin ⟨hh.1, by omega, by omega⟩)]
    exact write_slot_off M h f _ i (fun hh => hin hh)

/-- A row copied through its shape without the leading axis is itself. -/
theorem pay_row (v : S1x1x1024.Idx → F .bf16) : k0_pay1 v = v := by
  funext x
  have hx : x = ValueIdx.ix3 (⟨0, Nat.one_pos⟩ : Fin 1) (⟨0, Nat.one_pos⟩ : Fin 1) (x 2) := by
    funext a
    fin_cases a
    · exact Fin.ext (Nat.lt_one_iff.1 (x 0).isLt)
    · exact Fin.ext (Nat.lt_one_iff.1 (x 1).isLt)
    · rfl
  unfold k0_pay1
  refine (congrArg _ hx).trans ((ValueIdx.shapeCast_ab_1ab_apply _ _ _ (⟨0, Nat.one_pos⟩ : Fin 1) (x 2)).trans ?_)
  refine (ValueIdx.shapeCast_1ab_ab_apply v _ (⟨0, Nat.one_pos⟩ : Fin 1) (x 2)).trans ?_
  exact congrArg v hx.symm

/-! ## A block copied out -/

/-- A computed block copied out: its rows of the result are as they should be. -/
theorem fill_res (X : Blocks F) (c : Dev nD) {b s r0 : ℕ} (hx h sq) (hb : r0 = b * 256) (fo : S2x256x1024.Idx → F .bf16) (fd : S2048x1024.Idx → F .bf16)
    (hf : OutHas X c b s 0 256 fo) :
    ∀ j ∈ rows2 r0 (r0 + 256), ((rowsOf resM r0 256 hx).view.write (Elt F) fd ((slotOf outM s 0 256 h sq).view.read (Elt F) fo) Finset.univ) j
      = specBlock X c j := by
  intro j hj
  obtain ⟨h0, h1⟩ := (mem_rows2 j).1 hj
  have h2 : (j 1).val < 1024 := (j 1).isLt
  have hs : s + 1 ≤ 2 := h 0
  refine (congrFun (res_id _) j).symm.trans ?_
  refine (write_win2 resM hx _ fd _ (ValueIdx.ix2 (⟨(j 0).val - r0, by omega⟩ : Fin 256) (⟨(j 1).val, h2⟩ : Fin 1024)) j
    (by show _ = r0 + ((j 0).val - r0); omega) rfl).trans ?_
  refine (read_win3 outM h _ sq fo _ (ValueIdx.ix3 (⟨s, by omega⟩ : Fin 2) (⟨(j 0).val - r0, by omega⟩ : Fin 256) (⟨(j 1).val, h2⟩ : Fin 1024)) rfl
    (by show _ = 0 + ((j 0).val - r0); exact (Nat.zero_add _).symm) rfl).trans ?_
  rw [out_id]
  refine (hf _ rfl (Nat.zero_le _) (by show (j 0).val - r0 < 256; omega)).trans ?_
  unfold specBlock
  congr 1
  show c.val * 2048 + b * 256 + ((j 0).val - r0) = _
  omega

end Cert.KernelIdealProof
-- ==== Proof.KernelIdeal.Protocol.lean ====
/- The exchange between neighbouring devices: the row of devices, the semaphores it runs on, what each
   semaphore's units hand over, and what every device owes when the launch begins. -/
module

public import proofs.«01_k».proof.Proof.KernelIdeal.Blocks
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.Batch
public import Idealize.ShloMosaic.Lib.Rounds

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds, the exchange's rounds, the local copies' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's rounds: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb (U := UU)

abbrev 𝒱₀ : Variants := Variants.none

/-! ## The row of devices -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

def ring : Dev nD ≃ Dev nD := ⟨nxt, prv, prv_nxt, nxt_prv⟩

/-- The device has a neighbour before it; after it. -/
abbrev HasL (c : Dev nD) : Prop := 0 < c.val
abbrev HasR (c : Dev nD) : Prop := c.val < 3

theorem hasR_prv (c : Dev nD) (h : HasL c) : HasR (prv c) := by revert c; decide
theorem hasL_nxt (c : Dev nD) (h : HasR c) : HasL (nxt c) := by revert c; decide
theorem prv_val (c : Dev nD) (h : HasL c) : (prv c).val + 1 = c.val := by revert c; decide
theorem nxt_val (c : Dev nD) (h : HasR c) : (nxt c).val = c.val + 1 := by revert c; decide

/-! ## The semaphores -/

abbrev semAt (A : DmaSems sig S2) (s : ℕ) (h : ∀ a, (![s] : Fin 1 → ℕ) a + S1.size a ≤ S2.size a) : DmaSem sig :=
  ((A.slice (Rect.unit (s := S2) ![s] S1.size h)).squeeze S_ squeezes_S1_S_).sem

abbrev in0S : DmaSem sig := semAt cc0_scratch5 0 inb_S2_S1_0
abbrev in1S : DmaSem sig := semAt cc0_scratch5 1 inb_S2_S1_1
abbrev out0S : DmaSem sig := semAt cc0_scratch6 0 inb_S2_S1_0
abbrev out1S : DmaSem sig := semAt cc0_scratch6 1 inb_S2_S1_1
abbrev stageS : DmaSem sig := ((cc0_scratch7.slice (Rect.unit (s := S1) ![0] S1.size inb_S1_S1_0)).squeeze S_ squeezes_S1_S_).sem
abbrev send0S : DmaSem sig := semAt cc0_scratch8 0 inb_S2_S1_0
abbrev send1S : DmaSem sig := semAt cc0_scratch8 1 inb_S2_S1_1
abbrev recv0S : DmaSem sig := semAt cc0_scratch9 0 inb_S2_S1_0
abbrev recv1S : DmaSem sig := semAt cc0_scratch9 1 inb_S2_S1_1
abbrev barS : Sem sig := (SemArray.scalar (sig.barrier 0 rfl) : Sems sig S_).sem

theorem in0S_val : in0S = (⟨0, by decide⟩ : Fin 9) := by decide
theorem in1S_val : in1S = (⟨1, by decide⟩ : Fin 9) := by decide
theorem out0S_val : out0S = (⟨2, by decide⟩ : Fin 9) := by decide
theorem out1S_val : out1S = (⟨3, by decide⟩ : Fin 9) := by decide
theorem stageS_val : stageS = (⟨4, by decide⟩ : Fin 9) := by decide
theorem send0S_val : send0S = (⟨5, by decide⟩ : Fin 9) := by decide
theorem send1S_val : send1S = (⟨6, by decide⟩ : Fin 9) := by decide
theorem recv0S_val : recv0S = (⟨7, by decide⟩ : Fin 9) := by decide
theorem recv1S_val : recv1S = (⟨8, by decide⟩ : Fin 9) := by decide

abbrev barCell (c : Dev nD) : GSem nD τ sig := ((c : Thread nD τ), .reg barS)
abbrev dmaCell (c : Dev nD) (q : DmaSem sig) : GSem nD τ sig := ((c : Thread nD τ), .dma q)

/-! ## The buffers of a device -/

/-- The units a row's transfer credits. -/
abbrev N : ℕ := (slotOf haloM 0 0 1 inb_S2x1x1024_S1x1x1024_0_0_0 squeezes_S1x1x1024_S1x1024).view.dmaCredit
theorem N_pos : 0 < N := View.dmaCredit_pos _ (by decide)

/-- Slot `s` of the neighbour rows of device `c`, holding `f`; the same of the rows it sends. -/
def haloPts (c : Dev nD) (s : ℕ) (f : S2x1x1024.Idx → F .bf16) : sProp 𝕄 :=
  ((c : Thread nD τ).loc cc0_scratch2) ↦[rows3 1 s 0 1]{fullShare} (f : Buf (Elt F) ((c : Thread nD τ).loc cc0_scratch2))
def edgePts (c : Dev nD) (s : ℕ) (f : S2x1x1024.Idx → F .bf16) : sProp 𝕄 :=
  ((c : Thread nD τ).loc cc0_scratch4) ↦[rows3 1 s 0 1]{fullShare} (f : Buf (Elt F) ((c : Thread nD τ).loc cc0_scratch4))

def haloAny (c : Dev nD) (s : ℕ) : sProp 𝕄 := iprop(∃ f, haloPts c s f)
def edgeAny (c : Dev nD) (s : ℕ) : sProp 𝕄 := iprop(∃ f, edgePts c s f)
/-- Slot `s` of the neighbour rows holding row `g` of the array. -/
def haloIs (X : Blocks F) (c : Dev nD) (g s : ℕ) : sProp 𝕄 := iprop(∃ f, ⌜HaloHas X g s f⌝ ∗ haloPts c s f)

instance haloAny_storable (c : Dev nD) (s : ℕ) : BI.Storable (upEmb : UEmb _ 𝕄) (haloAny (F := F) c s) := by
  unfold haloAny haloPts; infer_instance
instance edgeAny_storable (c : Dev nD) (s : ℕ) : BI.Storable (upEmb : UEmb _ 𝕄) (edgeAny (F := F) c s) := by
  unfold edgeAny edgePts; infer_instance
instance haloIs_storable (X : Blocks F) (c : Dev nD) (g s : ℕ) : BI.Storable (upEmb : UEmb _ 𝕄) (haloIs (F := F) X c g s) := by
  unfold haloIs haloPts; infer_instance

/-- A resource that is there only under a condition. -/
def onlyIf (p : Prop) [Decidable p] (P : sProp 𝕄) : sProp 𝕄 := if p then P else iprop(emp)
theorem onlyIf_pos {p : Prop} [Decidable p] (h : p) (P : sProp 𝕄) : onlyIf p P = P := if_pos h
theorem onlyIf_neg {p : Prop} [Decidable p] (h : ¬ p) (P : sProp 𝕄) : onlyIf p P = iprop(emp) := if_neg h

/-! ## The schedule -/

/-- The neighbours that signal a device's barrier: `true` the one after it, `false` the one before it. -/
def barD (c : Dev nD) : Finset Bool := (if HasR c then {true} else ∅) ∪ (if HasL c then {false} else ∅)

/-- The duties of a device's semaphore in the only round. -/
def dutiesOf (c : Dev nD) : SemLoc sig → Finset Bool
  | .reg _ => barD c
  | .dma q =>
    if q = send0S then (if HasR c then {false} else ∅)
    else if q = send1S then (if HasL c then {false} else ∅)
    else if q = recv0S then (if HasL c then {false} else ∅)
    else if q = recv1S then (if HasR c then {false} else ∅)
    else ∅

/-- What a semaphore's units hand its device: a signal, the signaller's slot to write to; a sent row's,
    the slot it was sent from; a received row's, the slot holding it. -/
def payOf (X : Blocks F) (c : Dev nD) (d : Bool) : SemLoc sig → sProp 𝕄
  | .reg _ => if d then haloAny (nxt c) 0 else haloAny (prv c) 1
  | .dma q =>
    if q = send0S then edgeAny c 1
    else if q = send1S then edgeAny c 0
    else if q = recv0S then haloIs X c (c.val * 2048 - 1) 0
    else if q = recv1S then haloIs X c (c.val * 2048 + 2048) 1
    else iprop(emp)

def amountOf : SemLoc sig → ℕ
  | .reg _ => 1
  | .dma _ => N

theorem amountOf_pos (sm : SemLoc sig) : 0 < amountOf sm := by
  cases sm with
  | reg _ => exact Nat.one_pos
  | dma _ => exact N_pos

instance payOf_storable (X : Blocks F) (c : Dev nD) (d : Bool) (sm : SemLoc sig) :
    BI.Storable (upEmb : UEmb _ 𝕄) (payOf (F := F) X c d sm) := by
  cases sm with
  | reg _ => unfold payOf; dsimp only; split <;> infer_instance
  | dma q => unfold payOf; dsimp only; (repeat' split) <;> infer_instance

def Rd (X : Blocks F) : Rounds.Schedule (GSem nD τ sig) Bool 𝕄 where
  duties g r := if r = 0 ∧ g.1.2 = .tc then dutiesOf g.1.1 g.2 else ∅
  unitless _ := False
  amount g _ _ := amountOf g.2
  payload g _ d := payOf X g.1.1 d g.2
  amount_pos g _ _ _ := amountOf_pos g.2

instance Rd_payload_storable (X : Blocks F) (g : GSem nD τ sig) (r : ℕ) (d : Bool) :
    BI.Storable (upEmb : UEmb _ 𝕄) ((Rd (F := F) X).payload g r d) :=
  payOf_storable X g.1.1 d g.2

section Sched
variable (X : Blocks F) (c : Dev nD)

theorem duties_at (sm : SemLoc sig) : (Rd X).duties ((c : Thread nD τ), sm) 0 = dutiesOf c sm := by
  show (if 0 = 0 ∧ (c : Thread nD τ).2 = .tc then dutiesOf c sm else ∅) = _
  exact if_pos ⟨rfl, rfl⟩
theorem duties_later (g : GSem nD τ sig) : ∀ r, 1 ≤ r → (Rd (F := F) X).duties g r = ∅ :=
  fun r hr => if_neg fun h => by omega

theorem dutiesOf_send0 : dutiesOf c (.dma send0S) = if HasR c then {false} else ∅ := by
  unfold dutiesOf; dsimp only; rw [if_pos rfl]
theorem dutiesOf_send1 : dutiesOf c (.dma send1S) = if HasL c then {false} else ∅ := by
  unfold dutiesOf; dsimp only; rw [if_neg (by decide), if_pos rfl]
theorem dutiesOf_recv0 : dutiesOf c (.dma recv0S) = if HasL c then {false} else ∅ := by
  unfold dutiesOf; dsimp only; rw [if_neg (by decide), if_neg (by decide), if_pos rfl]
theorem dutiesOf_recv1 : dutiesOf c (.dma recv1S) = if HasR c then {false} else ∅ := by
  unfold dutiesOf; dsimp only; rw [if_neg (by decide), if_neg (by decide), if_neg (by decide), if_pos rfl]

theorem payOf_send0 (d : Bool) : payOf X c d (.dma send0S) = edgeAny c 1 := by
  unfold payOf; dsimp only; rw [if_pos rfl]
theorem payOf_send1 (d : Bool) : payOf X c d (.dma send1S) = edgeAny c 0 := by
  unfold payOf; dsimp only; rw [if_neg (by decide), if_pos rfl]
theorem payOf_recv0 (d : Bool) : payOf X c d (.dma recv0S) = haloIs X c (c.val * 2048 - 1) 0 := by
  unfold payOf; dsimp only; rw [if_neg (by decide), if_neg (by decide), if_pos rfl]
theorem payOf_recv1 (d : Bool) : payOf X c d (.dma recv1S) = haloIs X c (c.val * 2048 + 2048) 1 := by
  unfold payOf; dsimp only; rw [if_neg (by decide), if_neg (by decide), if_neg (by decide), if_pos rfl]

/-- A semaphore with the one duty expects its units, and they hand over its payload. -/
theorem expect_one (q : DmaSem sig) (h : dutiesOf c (.dma q) = {false}) : (Rd X).expect (dmaCell c q) 0 = N := by
  unfold Schedule.expect Schedule.amountOf
  rw [duties_at, h, Finset.sum_singleton]
  rfl
theorem rest_one (q : DmaSem sig) (h : dutiesOf c (.dma q) = {false}) :
    bigSep ((Rd X).duties (dmaCell c q) 0 \ ∅) (fun d => (Rd X).payload (dmaCell c q) 0 d) = payOf X c false (.dma q) := by
  rw [Finset.sdiff_empty, duties_at, h, bigSep_singleton]
  rfl

theorem expect_bar : (Rd X).expect (barCell c) 0 = (barD c).card := by
  unfold Schedule.expect Schedule.amountOf
  rw [duties_at]
  show ∑ d ∈ barD c, 1 = _
  rw [Finset.sum_const, smul_eq_mul, mul_one]

/-- All that a device's barrier hands it: the slots of its neighbours it is to write to. -/
def barGot (c : Dev nD) : sProp 𝕄 := iprop(onlyIf (HasR c) (haloAny (nxt c) 0) ∗ onlyIf (HasL c) (haloAny (prv c) 1))

theorem barD_both (h : HasL c) (h' : HasR c) : barD c = {true, false} := by unfold barD; rw [if_pos h, if_pos h']; rfl
theorem barD_left (h : HasL c) (h' : ¬ HasR c) : barD c = {false} := by unfold barD; rw [if_pos h, if_neg h']; rfl
theorem barD_right (h : ¬ HasL c) (h' : HasR c) : barD c = {true} := by unfold barD; rw [if_neg h, if_pos h']; rfl

theorem pay_bar_true : (Rd X).payload (barCell c) 0 true = haloAny (nxt c) 0 := rfl
theorem pay_bar_false : (Rd X).payload (barCell c) 0 false = haloAny (prv c) 1 := rfl

theorem bar_all : bigSep (barD c) (fun d => (Rd X).payload (barCell c) 0 d) ⊢ (barGot c : sProp 𝕄) := by
  unfold barGot
  by_cases h : HasL c <;> by_cases h' : HasR c
  · rw [barD_both c h h', onlyIf_pos h, onlyIf_pos h', bigSep_insert (by decide), bigSep_singleton, pay_bar_true, pay_bar_false]
    exact BI.Entails.refl _
  · rw [barD_left c h h', onlyIf_pos h, onlyIf_neg h', bigSep_singleton, pay_bar_false]
    iintro H
    isplitr; · iempintro
    iexact H
  · rw [barD_right c h h', onlyIf_neg h, onlyIf_pos h', bigSep_singleton, pay_bar_true]
    iintro H
    isplitl [H]; · iexact H
    iempintro
  · exact absurd (Nat.lt_of_not_le fun hh => h' (by omega)) (by omega)

end Sched

/-! ## What each device owes at launch; the levels -/

def owL (c : Dev nD) : CellTallies nD τ sig Unit := if HasL c then tallyAt (dmaCell (prv c) recv1S) () N else 0
def owR (c : Dev nD) : CellTallies nD τ sig Unit := if HasR c then tallyAt (dmaCell (nxt c) recv0S) () N else 0
def obR (c : Dev nD) : CellTallies nD τ sig Unit := if HasR c then tallyAt (barCell (nxt c)) () 1 else 0
def obL (c : Dev nD) : CellTallies nD τ sig Unit := if HasL c then tallyAt (barCell (prv c)) () 1 else 0

/-- The rows a device owes its neighbours. -/
def Orow (c : Dev nD) : CellTallies nD τ sig Unit := owL c + owR c
/-- With them, a signal to each neighbour. -/
def O₀ (c : Dev nD) : CellTallies nD τ sig Unit := Orow c + obR c + obL c

def L (g : GSem nD τ sig) : Finset Unit := if g.1.2 = .tc then {()} else ∅
/-- Barriers at 1, received rows at 2, everything else at 0. -/
def lv (g : GSem nD τ sig) (_ : Unit) : ℕ :=
  match g.2 with
  | .reg _ => 1
  | .dma q => if q = recv0S ∨ q = recv1S then 2 else 0

theorem L_of_ne (g : GSem nD τ sig) (h : g.1.2 ≠ .tc) : L g = ∅ := if_neg h
theorem L_tc (c : Dev nD) (sm : SemLoc sig) : L ((c : Thread nD τ), sm) = {()} := if_pos rfl

theorem tally_pos {g g' : GSem nD τ sig} {k : ℕ} {u : Unit} (h : 0 < tallyAt (nD := nD) (τ := τ) (sig := sig) g () k g' u) : g' = g := by
  rw [tallyAt_apply] at h
  by_contra hn
  rw [if_neg (fun h' => hn h'.1)] at h
  exact Nat.lt_irrefl 0 h

theorem Orow_pos {c : Dev nD} {g : GSem nD τ sig} {u : Unit} (h : 0 < Orow c g u) :
    g = dmaCell (prv c) recv1S ∨ g = dmaCell (nxt c) recv0S := by
  unfold Orow at h
  rw [Pi.add_apply, Finsupp.add_apply] at h
  rcases Nat.eq_zero_or_pos (owL c g u) with h0 | h0
  · rw [h0, Nat.zero_add] at h
    unfold owR at h
    split at h
    · exact Or.inr (tally_pos h)
    · exact absurd h (Nat.lt_irrefl 0)
  · unfold owL at h0
    split at h0
    · exact Or.inl (tally_pos h0)
    · exact absurd h0 (Nat.lt_irrefl 0)

/-- A device that owes only rows may wait on any semaphore of its own but a received row's. -/
theorem mayWait_row (c : Dev nD) (sm : SemLoc sig) (hs : lv ((c : Thread nD τ), sm) () ≤ 1) :
    (levAts L lv : sProp 𝕄) ⊢ MayWait (c : Thread nD τ) sm () (Orow c) :=
  MayOwe.of_cut (L := L) (lev := lv) 1 (fun p hp => by rw [Finset.mem_singleton.mp hp, L_tc]; exact Finset.mem_singleton_self _)
    (fun g u hg => by rcases Orow_pos hg with rfl | rfl <;> exact Finset.mem_singleton_self _)
    (fun p hp => by rw [Finset.mem_singleton.mp hp]; exact hs)
    (fun g u hg => by
      rcases Orow_pos hg with rfl | rfl
      · show 1 < if recv1S = recv0S ∨ recv1S = recv1S then 2 else 0
        rw [if_pos (Or.inr rfl)]; decide
      · show 1 < if recv0S = recv0S ∨ recv0S = recv1S then 2 else 0
        rw [if_pos (Or.inl rfl)]; decide)

end Cert.KernelIdealProof
-- ==== Proof.KernelIdeal.Steps.lean ====
/- The local steps of a device: a window copied in, a block computed and stored, a block copied out, and the waits
   for those copies. Each is stated once, for every slot and block. -/
module

public import proofs.«01_k».proof.Proof.KernelIdeal.Protocol

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-- A program of a device, and what running it to `Q` asks for. -/
abbrev PR (F : FTy → Type) [FloatOps F] (α : Type) : Type 1 := Prog (TpuEff nD τ sig (Elt F) Λ₀ .tc) α
abbrev runs {α : Type} (c : Dev nD) (p : PR F α) (Q : α → sProp 𝕄) : sProp 𝕄 :=
  wp frame (wpE (defs₀ (F := F)) 𝒱₀ (c : Thread nD τ) none) Set.univ p Q

/-! ## What a device holds -/

section State
variable (X : Blocks F) (c : Dev nD)

def inPts (s : ℕ) (f : S2x272x1024.Idx → F .bf16) : sProp 𝕄 :=
  ((c : Thread nD τ).loc cc0_scratch0) ↦[rows3 272 s 0 272]{fullShare} (f : Buf (Elt F) ((c : Thread nD τ).loc cc0_scratch0))
def outPts (s : ℕ) (f : S2x256x1024.Idx → F .bf16) : sProp 𝕄 :=
  ((c : Thread nD τ).loc cc0_scratch1) ↦[rows3 256 s 0 256]{fullShare} (f : Buf (Elt F) ((c : Thread nD τ).loc cc0_scratch1))
def stagePts (s : ℕ) (f : S2x8x1024.Idx → F .bf16) : sProp 𝕄 :=
  ((c : Thread nD τ).loc cc0_scratch3) ↦[rows3 8 s 0 8]{fullShare} (f : Buf (Elt F) ((c : Thread nD τ).loc cc0_scratch3))
def resPts (b : ℕ) (f : S2048x1024.Idx → F .bf16) : sProp 𝕄 :=
  ((c : Thread nD τ).loc main_v1) ↦[rows2 (b * 256) (b * 256 + 256)]{fullShare} (f : Buf (Elt F) ((c : Thread nD τ).loc main_v1))
/-- A share of the device's block of the argument. -/
def xAt (q : PosShare TreeShare) : sProp 𝕄 :=
  ((c : Thread nD τ).loc main_arg0) ↦{q} (X c : Buf (Elt F) ((c : Thread nD τ).loc main_arg0))

def inAny (s : ℕ) : sProp 𝕄 := iprop(∃ f, inPts c s f)
/-- Slot `s` holding block `b`'s window at the rows `lo ≤ i < hi`. -/
def inIs (s b lo hi : ℕ) : sProp 𝕄 := iprop(∃ f, ⌜InHas X c b s lo hi f⌝ ∗ inPts c s f)
def outAny (s : ℕ) : sProp 𝕄 := iprop(∃ f, outPts c s f)
/-- Slot `s` holding block `b` of the result at the rows `lo ≤ i < hi`. -/
def outIs (s b lo hi : ℕ) : sProp 𝕄 := iprop(∃ f, ⌜OutHas X c b s lo hi f⌝ ∗ outPts c s f)
def stageAny (s : ℕ) : sProp 𝕄 := iprop(∃ f, stagePts c s f)
def resAny (b : ℕ) : sProp 𝕄 := iprop(∃ f, resPts c b f)
def resIs (b : ℕ) : sProp 𝕄 := resPts c b (specBlock X c)

theorem inIs_any {s b lo hi : ℕ} : inIs X c s b lo hi ⊢ (inAny c s : sProp 𝕄) := by
  unfold inIs inAny
  iintro ⟨%f, %hf, H⟩
  iexists f; iexact H
theorem outIs_any {s b lo hi : ℕ} : outIs X c s b lo hi ⊢ (outAny c s : sProp 𝕄) := by
  unfold outIs outAny
  iintro ⟨%f, %hf, H⟩
  iexists f; iexact H

/-- What a device owes, at some record of its waits. -/
def owing (O : CellTallies nD τ sig Unit) : sProp 𝕄 := iprop(∃ W, owes (c : Thread nD τ) O W)

/-- A transfer under way on a semaphore of the device, whose end hands over `D`. -/
def pend (q : DmaSem sig) (n : ℕ) (D : sProp 𝕄) : sProp 𝕄 :=
  iprop(∃ R : sProp 𝕄, Flight EC (c : Thread nD τ) (.dma q) () n R ∗ (R -∗ D))

abbrev free (q : DmaSem sig) : sProp 𝕄 := semVal (dmaCell c q) 0

/-- The units of a copied window of `k` rows, into the input buffer and into the result. -/
abbrev inCr (k : ℕ) : ℕ := (cc0_scratch0 : Ref sig .tc).dmaCredit ⟨2, ![k, 1024]⟩ .bf16
abbrev resCr : ℕ := (main_v1 : Ref sig .tc).dmaCredit ⟨2, ![256, 1024]⟩ .bf16

end State

/-- A finished program; two programs in turn. -/
theorem runs_ret {α : Type} (c : Dev nD) (a : α) (Q : α → sProp 𝕄) : Q a ⊢ runs c (.ret a : PR F α) Q := by
  unfold runs
  rw [wp_ret]
  iintro H
  imodintro
  iexact H
theorem runs_seq {α β : Type} (c : Dev nD) (p : PR F α) (k : α → PR F β) (Q : β → sProp 𝕄) :
    runs c p (fun a => runs c (k a) Q) ⊢ runs c (p >>= k) Q := Entails.of_eq (wp_bind _ _ _ p k Q).symm

section Rules
variable (X : Blocks F) (c : Dev nD) {α : Type} {Q : α → sProp (MT nD τ sig Unit (Elt F) ℕ UU ℕ)}

/-- A window of the argument's block, taken off and put back. -/
theorem x_window (q : PosShare TreeShare) {r0 k : ℕ} (hx) :
    xAt X c q ⊢ iprop(((rowsOf xM r0 k hx).view.loc (c : Thread nD τ) ↦[(rowsOf xM r0 k hx).view.set]{q} (X c : Buf (Elt F) ((c : Thread nD τ).loc main_arg0)))
      ∗ (((rowsOf xM r0 k hx).view.loc (c : Thread nD τ) ↦[(rowsOf xM r0 k hx).view.set]{q} (X c : Buf (Elt F) ((c : Thread nD τ).loc main_arg0))) -∗ (xAt X c q : sProp 𝕄))) := by
  unfold xAt
  iintro H
  ihave H' := (pointsTo_split_subset (ℓ := (c : Thread nD τ).loc main_arg0) (Finset.subset_univ (rowsOf xM r0 k hx).view.set)).1 $$ H
  icases H' with ⟨H1, H2⟩
  isplitl [H1]; · iexact H1
  iintro H1
  iapply (pointsTo_split_subset (ℓ := (c : Thread nD τ).loc main_arg0) (Finset.subset_univ (rowsOf xM r0 k hx).view.set)).2
  isplitl [H1] <;> iassumption

/-- A copy of a window into a slot: under way, it is to leave the window's rows there. -/
theorem start_in {b s r k r0 : ℕ} {hx} {h} {sq} (hr : r0 + 8 = b * 256 + r) (hk : r + k ≤ 272) (hk0 : 0 < k) (q : PosShare TreeShare) {sm : DmaSem sig}
    {hsrc : (rowsOf xM r0 k hx).view.WordExact} {hdst : (slotOf inM s r k h sq).view.WordExact}
    {hsem : DmaTarget.Typed (nD := nD) .hbm (.dma sm) (DmaTarget.here (p := (.tc : Proc τ)) (slotOf inM s r k h sq))} {K : PUnit → PR F α} :
    iprop(inAny c s ∗ xAt X c q ∗ free c sm)
      ⊢ iprop((pend c sm (inCr k) iprop(inIs X c s b r (r + k) ∗ xAt X c q) -∗ runs c (K ⟨⟩) Q)
        -∗ runs c (.op (.enqueueDmaAs (rowsOf xM r0 k hx) (.here (slotOf inM s r k h sq)) .same (.dma sm) hsrc hdst hsem) K) Q) := by
  have hp : 0 < (slotOf inM s r k h sq).view.dmaCredit := View.dmaCredit_pos _ (Shape.numel_pos fun a => by
    fin_cases a
    · exact hk0
    · exact Nat.succ_pos _)
  unfold inAny inPts
  iintro ⟨⟨%fd, Hd⟩, Hx, Hv⟩ Hk
  ihave Hx' := (x_window X c q hx) $$ Hx
  icases Hx' with ⟨Hw, Hback⟩
  iapply (wp_dmaLocal EC 𝒱₀ (c : Thread nD τ) none (src := rowsOf xM r0 k hx) (dst := slotOf inM s r k h sq) (fd := fd) () (inCr k) rfl hp
      (Sd := rows3 272 s 0 272) (by
        rw [in_set]; intro i hi
        obtain ⟨a, b, d⟩ := (mem_rows3 i).1 hi
        exact (mem_rows3 i).2 ⟨a, Nat.zero_le _, by omega⟩)) $$ [Hd Hw Hv]
  · isplitl [Hw]; · iexact Hw
    isplitl [Hd]; · iexact Hd
    iexact Hv
  iintro Hf
  iapply Hk
  unfold pend
  iexists _
  isplitl [Hf]; · iexact Hf
  iintro ⟨Hd, Hw⟩
  isplitl [Hd]
  · unfold inIs inPts
    iexists _
    isplitr
    · ipureintro; exact fill_in X c hx h sq hr fd
    · iexact Hd
  · iapply Hback; iexact Hw

/-- A computed block's copy out: under way, it is to leave the block in the result. -/
theorem start_out {b s r0 : ℕ} {hx} {h} {sq} (hb : r0 = b * 256) {sm : DmaSem sig}
    {hsrc : (slotOf outM s 0 256 h sq).view.WordExact} {hdst : (rowsOf resM r0 256 hx).view.WordExact}
    {hsem : DmaTarget.Typed (nD := nD) .vmem (.dma sm) (DmaTarget.here (p := (.tc : Proc τ)) (rowsOf resM r0 256 hx))} {K : PUnit → PR F α} :
    iprop(outIs X c s b 0 256 ∗ resAny c b ∗ free c sm)
      ⊢ iprop((pend c sm resCr iprop(outAny c s ∗ resIs X c b) -∗ runs c (K ⟨⟩) Q)
        -∗ runs c (.op (.enqueueDmaAs (slotOf outM s 0 256 h sq) (.here (rowsOf resM r0 256 hx)) .same (.dma sm) hsrc hdst hsem) K) Q) := by
  subst hb
  have hp : 0 < (rowsOf resM (b * 256) 256 hx).view.dmaCredit := View.dmaCredit_pos _ (by decide)
  unfold outIs resAny outPts resPts
  iintro ⟨⟨%fo, %hf, Ho⟩, ⟨%fd, Hd⟩, Hv⟩ Hk
  iapply (wp_dmaLocal EC 𝒱₀ (c : Thread nD τ) none (src := slotOf outM s 0 256 h sq) (dst := rowsOf resM (b * 256) 256 hx) (fs := fo) (q := fullShare) (fd := fd)
      () resCr rfl hp
      (Sd := rows2 (b * 256) (b * 256 + 256)) (by rw [res_set])) $$ [Ho Hd Hv]
  · isplitl [Ho]
    · rw [out_set]; iexact Ho
    isplitl [Hd]; · iexact Hd
    iexact Hv
  iintro Hf
  iapply Hk
  unfold pend
  iexists _
  isplitl [Hf]; · iexact Hf
  iintro ⟨Hd, Ho⟩
  isplitl [Ho]
  · unfold outAny outPts
    iexists fo
    rw [out_set]; iexact Ho
  · unfold resIs resPts
    iapply (Entails.of_eq (pointsTo_congr (fill_res X c hx h sq rfl fo fd hf)))
    iexact Hd

/-- The wait for a transfer under way. -/
theorem wait_pend {sm : DmaSem sig} {n : ℕ} {D : sProp 𝕄} {O : CellTallies nD τ sig Unit} {sp sp' : Space} {s s' : Shape} {e e' : EltTy}
    {srcw : Memref sig .tc sp' s' e'} {dstw : Memref sig .tc sp s e} {hsrc : srcw.view.WordExact} {hdst : dstw.view.WordExact}
    (hn : dstw.view.dmaCredit = n) {K : PUnit → PR F α} :
    iprop(pend c sm n D ∗ owing c O ∗ MayWait (c : Thread nD τ) (.dma sm) () O)
      ⊢ iprop((iprop(D ∗ free c sm ∗ owing c O) -∗ runs c (K ⟨⟩) Q) -∗ runs c (.op (.waitDma2 sm srcw dstw hsrc hdst) K) Q) := by
  unfold pend owing
  iintro ⟨⟨%R, Hf, HR⟩, ⟨%W, HO⟩, HM⟩ Hk
  iapply (wp_waitLocalO EC 𝒱₀ (c : Thread nD τ) none () hn) $$ [Hf HO HM]
  · isplitl [Hf]; · iexact Hf
    isplitl [HO] <;> iassumption
  iintro ⟨HD, Hv, HO⟩
  iapply Hk
  isplitl [HR HD]
  · iapply HR; iexact HD
  isplitl [Hv]; · iexact Hv
  iexists _; iexact HO

/-- The wait for a transfer under way, nothing owed. -/
theorem wait_pend0 {sm : DmaSem sig} {n : ℕ} {D : sProp 𝕄} {sp sp' : Space} {s s' : Shape} {e e' : EltTy}
    {srcw : Memref sig .tc sp' s' e'} {dstw : Memref sig .tc sp s e} {hsrc : srcw.view.WordExact} {hdst : dstw.view.WordExact}
    (hn : dstw.view.dmaCredit = n) {K : PUnit → PR F α} :
    iprop(pend c sm n D ∗ owing c 0)
      ⊢ iprop((iprop(D ∗ free c sm ∗ owing c 0) -∗ runs c (K ⟨⟩) Q) -∗ runs c (.op (.waitDma2 sm srcw dstw hsrc hdst) K) Q) := by
  iintro ⟨Hp, HO⟩ Hk
  iapply (wait_pend c hn) $$ [Hp HO]
  · isplitl [Hp]; · iexact Hp
    isplitl [HO]; · iexact HO
    rw [MayWait_zero]; iempintro
  iexact Hk

/-! ## Loads and stores of the two buffers -/

abbrev inRect (s r k : ℕ) (h : ∀ a, (![s, r, 0] : Fin 3 → ℕ) a + (![1, k, 1024] : Fin 3 → ℕ) a ≤ S2x272x1024.size a) : Rect S2x272x1024 :=
  Rect.unit (s := S2x272x1024) ![s, r, 0] ![1, k, 1024] h
abbrev outRect (s r k : ℕ) (h : ∀ a, (![s, r, 0] : Fin 3 → ℕ) a + (![1, k, 1024] : Fin 3 → ℕ) a ≤ S2x256x1024.size a) : Rect S2x256x1024 :=
  Rect.unit (s := S2x256x1024) ![s, r, 0] ![1, k, 1024] h

theorem in_load_sub {s r k : ℕ} (h) (hr : r + k ≤ 272) : inM.view.setOn (inRect s r k h).toLoadRect.set ⊆ rows3 272 s 0 272 := by
  intro i hi
  have e : inM.view.setOn (inRect s r k h).toLoadRect.set = rows3 272 s r (r + k) :=
    (View.set_slice (View.whole cc0_scratch0) (inRect s r k h)).symm.trans ((View.set_slice_whole cc0_scratch0 (inRect s r k h)).trans (rect3_set h))
  rw [e] at hi
  obtain ⟨a, b, d⟩ := (mem_rows3 i).1 hi
  exact (mem_rows3 i).2 ⟨a, Nat.zero_le _, by omega⟩

theorem out_load_sub {s r k : ℕ} (h) (hr : r + k ≤ 256) : outM.view.setOn (outRect s r k h).toLoadRect.set ⊆ rows3 256 s 0 256 := by
  intro i hi
  have e : outM.view.setOn (outRect s r k h).toLoadRect.set = rows3 256 s r (r + k) :=
    (View.set_slice (View.whole cc0_scratch1) (outRect s r k h)).symm.trans ((View.set_slice_whole cc0_scratch1 (outRect s r k h)).trans (rect3_set h))
  rw [e] at hi
  obtain ⟨a, b, d⟩ := (mem_rows3 i).1 hi
  exact (mem_rows3 i).2 ⟨a, Nat.zero_le _, by omega⟩

/-- A load from a slot of the input buffer. -/
theorem load_in {s r k : ℕ} {h} (hr : r + k ≤ 272) {f : S2x272x1024.Idx → F .bf16} {hl : inM.view.LoadsAt (inRect s r k h).toLoadRect}
    {K : ((inRect s r k h).toLoadRect.shape.Idx → Elt F .bf16) → PR F α} :
    inPts c s f ⊢ iprop((inPts c s f -∗ runs c (K (inM.view.readAt (Elt F) (inRect s r k h).toLoadRect f)) Q)
        -∗ runs c (.op (.load inM (inRect s r k h).toLoadRect hl) K) Q) := by
  unfold inPts
  exact wp_load 𝒱₀ (c : Thread nD τ) none Set.univ (m := inM) (in_load_sub h hr)

/-- A load from a slot of the output buffer. -/
theorem load_out {s r k : ℕ} {h} (hr : r + k ≤ 256) {f : S2x256x1024.Idx → F .bf16} {hl : outM.view.LoadsAt (outRect s r k h).toLoadRect}
    {K : ((outRect s r k h).toLoadRect.shape.Idx → Elt F .bf16) → PR F α} :
    outPts c s f ⊢ iprop((outPts c s f -∗ runs c (K (outM.view.readAt (Elt F) (outRect s r k h).toLoadRect f)) Q)
        -∗ runs c (.op (.load outM (outRect s r k h).toLoadRect hl) K) Q) := by
  unfold outPts
  exact wp_load 𝒱₀ (c : Thread nD τ) none Set.univ (m := outM) (out_load_sub h hr)

/-- A store to a slot of the input buffer; of the output buffer. -/
theorem store_in {s r k : ℕ} {h} (hr : r + k ≤ 272) {f : S2x272x1024.Idx → F .bf16} {w : (inRect s r k h).shape.Idx → F .bf16}
    {hx : (inM.access (inRect s r k h)).Stores Finset.univ} {hm} {K : PUnit → PR F α} :
    inPts c s f ⊢ iprop((inPts c s ((inM.access (inRect s r k h)).write (Elt F) f w Finset.univ) -∗ runs c (K ⟨⟩) Q)
        -∗ runs c (.op (.store inM (inRect s r k h) w Finset.univ hx hm) K) Q) := by
  unfold inPts
  refine wp_store 𝒱₀ (c : Thread nD τ) none Set.univ (m := inM) (r := inRect s r k h) ?_
  refine Finset.Subset.trans (Finset.Subset.trans (subset_of_eq (View.set_slice _ _)) ?_) (in_load_sub h hr)
  exact Finset.Subset.refl _

theorem store_out {s r k : ℕ} {h} (hr : r + k ≤ 256) {f : S2x256x1024.Idx → F .bf16} {w : (outRect s r k h).shape.Idx → F .bf16}
    {hx : (outM.access (outRect s r k h)).Stores Finset.univ} {hm} {K : PUnit → PR F α} :
    outPts c s f ⊢ iprop((outPts c s ((outM.access (outRect s r k h)).write (Elt F) f w Finset.univ) -∗ runs c (K ⟨⟩) Q)
        -∗ runs c (.op (.store outM (outRect s r k h) w Finset.univ hx hm) K) Q) := by
  unfold outPts
  refine wp_store 𝒱₀ (c : Thread nD τ) none Set.univ (m := outM) (r := outRect s r k h) ?_
  refine Finset.Subset.trans (Finset.Subset.trans (subset_of_eq (View.set_slice _ _)) ?_) (out_load_sub h hr)
  exact Finset.Subset.refl _

/-! ## A block -/

/-- A value is block `b`'s blend of the rows slot `s` held, which were the array's at `lo ≤ i < hi`. -/
def BlockVal (s b lo hi : ℕ) (h7 : ∀ a, (![s, 7, 0] : Fin 3 → ℕ) a + (![1, 256, 1024] : Fin 3 → ℕ) a ≤ S2x272x1024.size a)
    (h8 : ∀ a, (![s, 8, 0] : Fin 3 → ℕ) a + (![1, 256, 1024] : Fin 3 → ℕ) a ≤ S2x272x1024.size a)
    (h9 : ∀ a, (![s, 9, 0] : Fin 3 → ℕ) a + (![1, 256, 1024] : Fin 3 → ℕ) a ≤ S2x272x1024.size a) (w : S1x256x1024.Idx → F .bf16) : Prop :=
  ∃ f, InHas X c b s lo hi f ∧ w = k0_pay3 (inM.view.readAt (Elt F) (inRect s 7 256 h7).toLoadRect f)
    (inM.view.readAt (Elt F) (inRect s 8 256 h8).toLoadRect f) (inM.view.readAt (Elt F) (inRect s 9 256 h9).toLoadRect f)

/-- The three loads of a block. -/
theorem loads_block {s b lo hi : ℕ} {h7 h8 h9} {hl7 : inM.view.LoadsAt (inRect s 7 256 h7).toLoadRect} {hl8 : inM.view.LoadsAt (inRect s 8 256 h8).toLoadRect}
    {hl9 : inM.view.LoadsAt (inRect s 9 256 h9).toLoadRect}
    {K : (S1x256x1024.Idx → Elt F .bf16) → (S1x256x1024.Idx → Elt F .bf16) → (S1x256x1024.Idx → Elt F .bf16) → PR F α} :
    inIs X c s b lo hi ⊢ iprop((∀ u v w, iprop(⌜BlockVal X c s b lo hi h7 h8 h9 (k0_pay3 u v w)⌝ ∗ inIs X c s b lo hi) -∗ runs c (K u v w) Q)
        -∗ runs c (.op (.load inM (inRect s 7 256 h7).toLoadRect hl7) fun u => .op (.load inM (inRect s 8 256 h8).toLoadRect hl8) fun v =>
            .op (.load inM (inRect s 9 256 h9).toLoadRect hl9) fun w => K u v w) Q) := by
  unfold inIs
  iintro ⟨%f, %hf, H⟩ Hk
  iapply (load_in c (by decide)) $$ H
  iintro H
  iapply (load_in c (by decide)) $$ H
  iintro H
  iapply (load_in c (by decide)) $$ H
  iintro H
  iapply Hk
  isplitr
  · ipureintro; exact ⟨f, hf, rfl⟩
  · iexists f
    isplitr
    · ipureintro; exact hf
    · iexact H

/-- The store of a block: the slot holds the result's rows, as far as the rows read reach. -/
theorem store_block {s b lo hi lo' hi' : ℕ} {h7 h8 h9 ho} {w : S1x256x1024.Idx → F .bf16} {hl : outM.view.LoadsAt (outRect s 0 256 ho).toLoadRect}
    {hx : (outM.access (outRect s 0 256 ho)).Stores Finset.univ} {hm} (hw : BlockVal X c s b lo hi h7 h8 h9 w) (hlo : lo ≤ 8)
    (h1 : lo ≤ lo' + 7) (h2 : hi' + 8 < hi)
    (hg : ∀ r, r < 256 → lo ≤ r + 7 → r + 9 < hi → c.val * 2048 + b * 256 + r ≠ 0 ∧ c.val * 2048 + b * 256 + r ≠ 8191)
    {K : PUnit → PR F α} :
    outAny c s ⊢ iprop((outIs X c s b lo' hi' -∗ runs c (K ⟨⟩) Q)
        -∗ runs c (.op (.load outM (outRect s 0 256 ho).toLoadRect hl) fun _ => .op (.store outM (outRect s 0 256 ho) w Finset.univ hx hm) K) Q) := by
  unfold outAny
  iintro ⟨%g, H⟩ Hk
  iapply (load_out c (by decide)) $$ H
  iintro H
  iapply (store_out c (by decide)) $$ H
  iintro H
  iapply Hk
  unfold outIs
  iexists _
  isplitr
  · ipureintro
    obtain ⟨f, hf, hw⟩ := hw
    intro i i0 i1 i2
    exact compute_out X c f g h7 h8 h9 ho w hf hlo hw hg i i0 (by omega) (by omega)
  · iexact H

end Rules

end Cert.KernelIdealProof
-- ==== Proof.KernelIdeal.Talk.lean ====
/- The steps of the exchange: the signals to the neighbours, the barrier's waits, a row stored and sent, the waits for
   the rows sent and received. A step that only devices with a neighbour take is stated for every device. -/
module

public import proofs.«01_k».proof.Proof.KernelIdeal.Steps

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## The exchange's records -/

/-- The semaphores the exchange runs on. -/
def kcell (x : Dev nD × Fin 5) : GSem nD τ sig :=
  match x.2 with
  | 0 => barCell x.1
  | 1 => dmaCell x.1 send0S
  | 2 => dmaCell x.1 send1S
  | 3 => dmaCell x.1 recv0S
  | 4 => dmaCell x.1 recv1S

section Talk
variable (X : Blocks F) (K : Dev nD × Fin 5 → ℕ) (c : Dev nD) {α : Type} {Q : α → sProp (MT nD τ sig Unit (Elt F) ℕ UU ℕ)}

/-- The invariants of all those semaphores, that each has reached its round, and the levels. -/
def ctx : sProp 𝕄 :=
  iprop(bigSep Finset.univ (fun x => cellInv ER (Rd X) (K x) (kcell x)) ∗ bigSep Finset.univ (fun x => reached ER (kcell x) 0) ∗ levAts L lv)

instance ctx_persistent : BI.Persistent (ctx (F := F) X K) := by unfold ctx; infer_instance

theorem ctx_inv (x : Dev nD × Fin 5) {g : GSem nD τ sig} (hg : kcell x = g) : ctx X K ⊢ (cellInv ER (Rd X) (K x) g : sProp 𝕄) := by
  subst hg
  have e : bigSep Finset.univ (fun x => cellInv ER (Rd X) (K x) (kcell x)) ⊢ (cellInv ER (Rd X) (K x) (kcell x) : sProp 𝕄) :=
    bigSep_elim (Finset.mem_univ x)
  unfold ctx
  iintro ⟨H, -⟩
  iapply e; iexact H
theorem ctx_reached (x : Dev nD × Fin 5) {g : GSem nD τ sig} (hg : kcell x = g) : ctx X K ⊢ (reached ER g 0 : sProp 𝕄) := by
  subst hg
  have e : bigSep Finset.univ (fun x => reached ER (kcell x) 0) ⊢ (reached ER (kcell x) 0 : sProp 𝕄) := bigSep_elim (Finset.mem_univ x)
  unfold ctx
  iintro ⟨-, H, -⟩
  iapply e; iexact H
theorem ctx_lev : ctx X K ⊢ (levAts L lv : sProp 𝕄) := by
  unfold ctx
  iintro ⟨-, -, H⟩
  iexact H

/-- The semaphore is past every round that has a duty. -/
def Done (g : GSem nD τ sig) : sProp 𝕄 := iprop(∃ R, ⌜∀ r, R ≤ r → (Rd (F := F) X).duties g r = ∅⌝ ∗ atPos ER g R ∅ 0)

theorem done_intro (g : GSem nD τ sig) : (atPos ER g 1 ∅ 0 : sProp 𝕄) ⊢ Done X g := by
  unfold Done
  iintro H
  iexists 1
  isplitr
  · ipureintro; exact duties_later X g
  · iexact H
theorem done_idle (sm : SemLoc sig) (h : dutiesOf c sm = ∅) : (atPos ER ((c : Thread nD τ), sm) 0 ∅ 0 : sProp 𝕄) ⊢ Done X ((c : Thread nD τ), sm) := by
  unfold Done
  iintro H
  iexists 0
  isplitr
  · ipureintro
    intro r _
    rcases Nat.eq_zero_or_pos r with rfl | hr
    · rw [duties_at, h]
    · exact duties_later X _ r hr
  · iexact H

/-- A branch that only some devices take. -/
theorem branch {p q : Prop} [Decidable p] (hp : p ↔ q) {A B : sProp 𝕄} {β : Type} {kk : PR F β} {Q : β → sProp 𝕄} {t : p → PR F β}
    (hT : ∀ h : p, q → A ⊢ iprop((B -∗ runs c kk Q) -∗ runs c (t h) Q)) (hE : ¬ q → A ⊢ B) :
    A ⊢ iprop((B -∗ runs c kk Q) -∗ runs c (dite p t (fun _ => kk)) Q) := by
  by_cases h : p
  · rw [dif_pos h]; exact hT h (hp.1 h)
  · rw [dif_neg h]
    iintro HA HB
    iapply HB
    iapply (hE fun hq => h (hp.2 hq))
    iexact HA

/-! ## The signals -/

/-- The signal to the device before this one hands it this device's slot for its last row. -/
theorem signal_left {p : Prop} [Decidable p] (hp : p ↔ HasL c) {n : p → Dev nD} (hn : ∀ h, n h = prv c) {k : ℕ} (hk : k = 1) {β : Type} {kk : PR F β} {Q : β → sProp 𝕄} :
    iprop(ctx X K ∗ owing c (Orow c + obR c + obL c) ∗ onlyIf (HasL c) (dutyTok ER (barCell (prv c)) 0 true) ∗ haloAny c 0)
      ⊢ iprop((iprop(owing c (Orow c + obR c) ∗ onlyIf (¬ HasL c) (haloAny c 0)) -∗ runs c kk Q)
        -∗ runs c (dite p (fun h => .op (.semSignal ((n h : Dev nD) : Thread nD τ) barS k) fun _ => kk) (fun _ => kk)) Q) := by
  subst hk
  refine branch c hp (fun h hq => ?_) (fun hq => ?_)
  · rw [onlyIf_pos hq, onlyIf_neg (not_not.2 hq), hn h]
    unfold owing
    iintro ⟨#Hctx, ⟨%W, HO⟩, Ht, Hh⟩ Hk
    ihave #HI := (ctx_inv X K (prv c, 0) (g := barCell (prv c)) rfl) $$ Hctx
    ihave #Hr := (ctx_reached X K (prv c, 0) (g := barCell (prv c)) rfl) $$ Hctx
    iapply (Rounds.wp_signal 𝒱₀ ER (Rd X) (c : Thread nD τ) none (dst := (prv c : Thread nD τ)) (κ := K (prv c, 0)) (d := true) (k' := 1)
      (by rw [duties_at]; show true ∈ barD (prv c); unfold barD; rw [if_pos (hasR_prv c hq)]; exact Finset.mem_union_left _ (Finset.mem_singleton_self _))
      rfl () (O₀ := Orow c + obR c + obL c) (Orow c + obR c) (by unfold obL; rw [if_pos hq])) $$ [HO Ht Hh]
    · isplitr; · iexact HI
      isplitl [HO]; · iexact HO
      isplitl [Ht]; · iexact Ht
      isplitl [Hh]
      · rw [pay_bar_true, nxt_prv]; iexact Hh
      · iexact Hr
    iintro HO
    iapply Hk
    isplitl [HO]
    · iexists W; iexact HO
    · iempintro
  · rw [onlyIf_neg hq, onlyIf_pos hq]
    unfold obL
    rw [if_neg hq, add_zero]
    iintro ⟨-, HO, -, Hh⟩
    isplitl [HO] <;> iassumption

/-- The signal to the device after this one hands it this device's slot for its first row. -/
theorem signal_right {p : Prop} [Decidable p] (hp : p ↔ HasR c) {n : p → Dev nD} (hn : ∀ h, n h = nxt c) {k : ℕ} (hk : k = 1) {β : Type} {kk : PR F β} {Q : β → sProp 𝕄} :
    iprop(ctx X K ∗ owing c (Orow c + obR c) ∗ onlyIf (HasR c) (dutyTok ER (barCell (nxt c)) 0 false) ∗ haloAny c 1)
      ⊢ iprop((iprop(owing c (Orow c) ∗ onlyIf (¬ HasR c) (haloAny c 1)) -∗ runs c kk Q)
        -∗ runs c (dite p (fun h => .op (.semSignal ((n h : Dev nD) : Thread nD τ) barS k) fun _ => kk) (fun _ => kk)) Q) := by
  subst hk
  refine branch c hp (fun h hq => ?_) (fun hq => ?_)
  · rw [onlyIf_pos hq, onlyIf_neg (not_not.2 hq), hn h]
    unfold owing
    iintro ⟨#Hctx, ⟨%W, HO⟩, Ht, Hh⟩ Hk
    ihave #HI := (ctx_inv X K (nxt c, 0) (g := barCell (nxt c)) rfl) $$ Hctx
    ihave #Hr := (ctx_reached X K (nxt c, 0) (g := barCell (nxt c)) rfl) $$ Hctx
    iapply (Rounds.wp_signal 𝒱₀ ER (Rd X) (c : Thread nD τ) none (dst := (nxt c : Thread nD τ)) (κ := K (nxt c, 0)) (d := false) (k' := 1)
      (by rw [duties_at]; show false ∈ barD (nxt c); unfold barD; rw [if_pos (hasL_nxt c hq)]; exact Finset.mem_union_right _ (Finset.mem_singleton_self _))
      rfl () (O₀ := Orow c + obR c) (Orow c) (by unfold obR; rw [if_pos hq])) $$ [HO Ht Hh]
    · isplitr; · iexact HI
      isplitl [HO]; · iexact HO
      isplitl [Ht]; · iexact Ht
      isplitl [Hh]
      · rw [pay_bar_false, prv_nxt]; iexact Hh
      · iexact Hr
    iintro HO
    iapply Hk
    isplitl [HO]
    · iexists W; iexact HO
    · iempintro
  · rw [onlyIf_neg hq, onlyIf_pos hq]
    unfold obR
    rw [if_neg hq, add_zero]
    iintro ⟨-, HO, -, Hh⟩
    isplitl [HO] <;> iassumption

/-! ## The barrier's waits -/

/-- What a device holds of its barrier between its two waits. -/
def barMid : sProp 𝕄 :=
  if HasL c then
    if HasR c then iprop(∃ S, ⌜S ⊆ barD c⌝ ∗ atPos ER (barCell c) 0 S 1 ∗ bigSep S (fun d => (Rd X).payload (barCell c) 0 d))
    else iprop(atPos ER (barCell c) 1 ∅ 0 ∗ barGot c)
  else atPos ER (barCell c) 0 ∅ 0

theorem wait_left {p : Prop} [Decidable p] (hp : p ↔ HasL c) {k : ℕ} (hk : k = 1) {β : Type} {kk : PR F β} {Q : β → sProp 𝕄} :
    iprop(ctx X K ∗ owing c (Orow c) ∗ onlyIf (HasL c) (cred (tallyAt (barCell c) () 1)) ∗ atPos ER (barCell c) 0 ∅ 0)
      ⊢ iprop((iprop(owing c (Orow c) ∗ barMid X c) -∗ runs c kk Q)
        -∗ runs c (dite p (fun _ => .op (.semWait barS k) fun _ => kk) (fun _ => kk)) Q) := by
  subst hk
  refine branch c hp (fun h hq => ?_) (fun hq => ?_)
  · rw [onlyIf_pos hq]
    unfold owing barMid
    rw [if_pos hq]
    by_cases hr : HasR c
    · rw [if_pos hr]
      iintro ⟨#Hctx, ⟨%W, HO⟩, Hc, Ha⟩ Hk
      ihave #HI := (ctx_inv X K (c, 0) (g := barCell c) rfl) $$ Hctx
      ihave #Hlev := (ctx_lev X K) $$ Hctx
      iapply (Rounds.wp_wait 𝒱₀ ER (Rd X) (c : Thread nD τ) none (κ := K (c, 0)) (sm := .reg barS) (k' := 1)
        (wpE_semWait_eq 𝒱₀ (c : Thread nD τ) none Set.univ) (Set.mem_univ _) (cr := Finsupp.single () 1) (O := Orow c) (W := W)
        {(SemLoc.reg barS, ())} (R := 0) (m := 0) (T := ∅) (Util.total_single _ _) (image_single_subset _ _ _)) $$ [Hc HO Ha]
      · isplitr; · iexact HI
        isplitl [Hc]; · iexact Hc
        isplitl [HO]; · iexact HO
        isplitr
        · iapply (mayWait_row c (.reg barS) (show 1 ≤ 1 from le_refl 1)); iexact Hlev
        · iexact Ha
      iintro %S ⟨%hS, HO, Ha, Hp⟩
      iapply Hk
      isplitl [HO]
      · iexists _; iexact HO
      iexists S
      isplitr
      · ipureintro; have h2 := hS.2.1; rw [duties_at] at h2; exact h2
      isplitl [Ha]
      · rw [Nat.zero_add]; iexact Ha
      · rw [Finset.sdiff_empty]; iexact Hp
    · rw [if_neg hr]
      iintro ⟨#Hctx, ⟨%W, HO⟩, Hc, Ha⟩ Hk
      ihave #HI := (ctx_inv X K (c, 0) (g := barCell c) rfl) $$ Hctx
      ihave #Hlev := (ctx_lev X K) $$ Hctx
      iapply (Rounds.wp_wait_rest_token 𝒱₀ ER (Rd X) (c : Thread nD τ) none (κ := K (c, 0)) (wpE_semWait_eq 𝒱₀ (c : Thread nD τ) none Set.univ)
        (Set.mem_univ _) () (O := Orow c) (W := W) (R := 0) (m := 0) (T := ∅) (by rw [expect_bar, barD_left c hq hr]; rfl)) $$ [Hc HO Ha]
      · isplitr; · iexact HI
        isplitl [Hc]; · iexact Hc
        isplitl [HO]; · iexact HO
        isplitr
        · iapply (mayWait_row c (.reg barS) (show 1 ≤ 1 from le_refl 1)); iexact Hlev
        · iexact Ha
      iintro ⟨HO, Ha, -, Hp⟩
      iapply Hk
      isplitl [HO]
      · iexists _; iexact HO
      isplitl [Ha]; · iexact Ha
      iapply (bar_all X c)
      rw [Finset.sdiff_empty, duties_at]; iexact Hp
  · unfold barMid
    rw [if_neg hq]
    iintro ⟨-, HO, -, Ha⟩
    isplitl [HO] <;> iassumption

theorem wait_right {p : Prop} [Decidable p] (hp : p ↔ HasR c) {k : ℕ} (hk : k = 1) {β : Type} {kk : PR F β} {Q : β → sProp 𝕄} :
    iprop(ctx X K ∗ owing c (Orow c) ∗ onlyIf (HasR c) (cred (tallyAt (barCell c) () 1)) ∗ barMid X c)
      ⊢ iprop((iprop(owing c (Orow c) ∗ Done X (barCell c) ∗ barGot c) -∗ runs c kk Q)
        -∗ runs c (dite p (fun _ => .op (.semWait barS k) fun _ => kk) (fun _ => kk)) Q) := by
  subst hk
  refine branch c hp (fun h hq => ?_) (fun hq => ?_)
  · rw [onlyIf_pos hq]
    unfold owing barMid
    by_cases hl : HasL c
    · rw [if_pos hl, if_pos hq]
      iintro ⟨#Hctx, ⟨%W, HO⟩, Hc, Ha⟩ Hk
      ihave #HI := (ctx_inv X K (c, 0) (g := barCell c) rfl) $$ Hctx
      ihave #Hlev := (ctx_lev X K) $$ Hctx
      icases Ha with ⟨%S, %hS, Ha, Hp⟩
      iapply (Rounds.wp_wait_rest_token 𝒱₀ ER (Rd X) (c : Thread nD τ) none (κ := K (c, 0)) (wpE_semWait_eq 𝒱₀ (c : Thread nD τ) none Set.univ)
        (Set.mem_univ _) () (O := Orow c) (W := W) (R := 0) (m := 1) (T := S) (by rw [expect_bar, barD_both c hl hq]; rfl)) $$ [Hc HO Ha]
      · isplitr; · iexact HI
        isplitl [Hc]; · iexact Hc
        isplitl [HO]; · iexact HO
        isplitr
        · iapply (mayWait_row c (.reg barS) (show 1 ≤ 1 from le_refl 1)); iexact Hlev
        · iexact Ha
      iintro ⟨HO, Ha, -, Hp'⟩
      iapply Hk
      isplitl [HO]
      · iexists _; iexact HO
      isplitl [Ha]
      · iapply (done_intro X); iexact Ha
      iapply (bar_all X c)
      rw [duties_at]
      iapply (Entails.of_eq (show iprop(bigSep S (fun d => (Rd X).payload (barCell c) 0 d) ∗ bigSep (barD c \ S) (fun d => (Rd X).payload (barCell c) 0 d))
        = bigSep (barD c) (fun d => (Rd X).payload (barCell c) 0 d) by
          rw [← Finset.union_sdiff_of_subset hS, bigSep_union Finset.disjoint_sdiff, Finset.union_sdiff_of_subset hS]; rfl))
      isplitl [Hp]; · iexact Hp
      iexact Hp'
    · rw [if_neg hl]
      iintro ⟨#Hctx, ⟨%W, HO⟩, Hc, Ha⟩ Hk
      ihave #HI := (ctx_inv X K (c, 0) (g := barCell c) rfl) $$ Hctx
      ihave #Hlev := (ctx_lev X K) $$ Hctx
      iapply (Rounds.wp_wait_rest_token 𝒱₀ ER (Rd X) (c : Thread nD τ) none (κ := K (c, 0)) (wpE_semWait_eq 𝒱₀ (c : Thread nD τ) none Set.univ)
        (Set.mem_univ _) () (O := Orow c) (W := W) (R := 0) (m := 0) (T := ∅) (by rw [expect_bar, barD_right c hl hq]; rfl)) $$ [Hc HO Ha]
      · isplitr; · iexact HI
        isplitl [Hc]; · iexact Hc
        isplitl [HO]; · iexact HO
        isplitr
        · iapply (mayWait_row c (.reg barS) (show 1 ≤ 1 from le_refl 1)); iexact Hlev
        · iexact Ha
      iintro ⟨HO, Ha, -, Hp⟩
      iapply Hk
      isplitl [HO]
      · iexists _; iexact HO
      isplitl [Ha]
      · iapply (done_intro X); iexact Ha
      iapply (bar_all X c)
      rw [Finset.sdiff_empty, duties_at]; iexact Hp
  · have hl : HasL c := by
      have : ¬ c.val < 3 := hq
      show 0 < c.val
      omega
    unfold barMid
    rw [if_pos hl, if_neg hq]
    iintro ⟨-, HO, -, Ha, Hp⟩
    isplitl [HO]; · iexact HO
    isplitl [Ha]
    · iapply (done_intro X); iexact Ha
    · iexact Hp

/-! ## The waits for the rows -/

/-- The wait for a semaphore's one transfer hands over its payload. -/
theorem wait_pay (x : Fin 5) {q : DmaSem sig} (hx : kcell (c, x) = dmaCell c q) (hd : dutiesOf c (.dma q) = {false})
    {sp sp' : Space} {s s' : Shape} {e e' : EltTy} {srcw : Memref sig .tc sp' s' e'} {dstw : Memref sig .tc sp s e}
    {hsrc : srcw.view.WordExact} {hdst : dstw.view.WordExact} (hn : dstw.view.dmaCredit = N) {Kt : PUnit → PR F α} :
    iprop(ctx X K ∗ owing c 0 ∗ cred (tallyAt (dmaCell c q) () N) ∗ atPos ER (dmaCell c q) 0 ∅ 0)
      ⊢ iprop((iprop(owing c 0 ∗ Done X (dmaCell c q) ∗ payOf X c false (.dma q)) -∗ runs c (Kt ⟨⟩) Q)
        -∗ runs c (.op (.waitDma2 q srcw dstw hsrc hdst) Kt) Q) := by
  unfold owing
  iintro ⟨#Hctx, ⟨%W, HO⟩, Hc, Ha⟩ Hk
  ihave #HI := (ctx_inv X K (c, x) hx) $$ Hctx
  iapply (Rounds.wp_wait_rest_token 𝒱₀ ER (Rd X) (c : Thread nD τ) none (κ := K (c, x)) (wpE_waitDma2_eq 𝒱₀ (c : Thread nD τ) none Set.univ)
    (Set.mem_univ _) () (O := 0) (W := W) (R := 0) (m := 0) (T := ∅) (by rw [Nat.zero_add, hn]; exact (expect_one X c q hd).symm)) $$ [Hc HO Ha]
  · isplitr; · iexact HI
    isplitl [Hc]; · rw [hn]; iexact Hc
    isplitl [HO]; · iexact HO
    isplitr
    · rw [MayWait_zero]; iempintro
    · iexact Ha
  iintro ⟨HO, Ha, -, Hp⟩
  iapply Hk
  isplitl [HO]
  · iexists _; iexact HO
  isplitl [Ha]
  · iapply (done_intro X); iexact Ha
  · iapply (Entails.of_eq (rest_one X c q hd)); iexact Hp

/-- The same where only some devices wait, the others holding `D` already. -/
theorem wait_pay_if {p q : Prop} [Decidable p] [Decidable q] (hp : p ↔ q) (x : Fin 5) {qs : DmaSem sig} (hx : kcell (c, x) = dmaCell c qs)
    (hd : dutiesOf c (.dma qs) = if q then {false} else ∅) {D E : sProp 𝕄} (hD : q → payOf X c false (.dma qs) ⊢ D) (hE : ¬ q → E ⊢ D)
    {sp sp' : Space} {s s' : Shape} {e e' : EltTy} {srcw : Memref sig .tc sp' s' e'} {dstw : Memref sig .tc sp s e}
    {hsrc : srcw.view.WordExact} {hdst : dstw.view.WordExact} (hn : dstw.view.dmaCredit = N) {β : Type} {kk : PR F β} {Q : β → sProp 𝕄} :
    iprop(ctx X K ∗ owing c 0 ∗ onlyIf q (cred (tallyAt (dmaCell c qs) () N)) ∗ atPos ER (dmaCell c qs) 0 ∅ 0 ∗ onlyIf (¬ q) E)
      ⊢ iprop((iprop(owing c 0 ∗ Done X (dmaCell c qs) ∗ D) -∗ runs c kk Q)
        -∗ runs c (dite p (fun _ => .op (.waitDma2 qs srcw dstw hsrc hdst) fun _ => kk) (fun _ => kk)) Q) := by
  refine branch c hp (fun h hq => ?_) (fun hq => ?_)
  · rw [onlyIf_pos hq]
    rw [if_pos hq] at hd
    iintro ⟨#Hctx, HO, Hc, Ha, -⟩ Hk
    iapply (wait_pay X K c x hx hd hn) $$ [HO Hc Ha]
    · isplitr; · iexact Hctx
      isplitl [HO]; · iexact HO
      isplitl [Hc] <;> iassumption
    iintro ⟨HO, Ha, Hp⟩
    iapply Hk
    isplitl [HO]; · iexact HO
    isplitl [Ha]; · iexact Ha
    iapply (hD hq); iexact Hp
  · rw [onlyIf_pos hq]
    rw [if_neg hq] at hd
    iintro ⟨-, HO, -, Ha, HE⟩
    isplitl [HO]; · iexact HO
    isplitl [Ha]
    · iapply (done_idle X c (.dma qs) hd); iexact Ha
    · iapply (hE hq); iexact HE

end Talk

end Cert.KernelIdealProof
-- ==== Proof.KernelIdeal.Rows.lean ====
/- The steps with single rows: the staged rows, a row stored and sent to a neighbour, a neighbour's row patched into
   the input window, the array's own first and last row patched into the output. -/
module

public import proofs.«01_k».proof.Proof.KernelIdeal.Talk

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

section Rows
variable (X : Blocks F) (K : Dev nD × Fin 5 → ℕ) (c : Dev nD) {α : Type} {Q : α → sProp (MT nD τ sig Unit (Elt F) ℕ UU ℕ)}

/-! ## Loads and stores of the small buffers -/

abbrev stageRect (s r k : ℕ) (h : ∀ a, (![s, r, 0] : Fin 3 → ℕ) a + (![1, k, 1024] : Fin 3 → ℕ) a ≤ S2x8x1024.size a) : Rect S2x8x1024 :=
  Rect.unit (s := S2x8x1024) ![s, r, 0] ![1, k, 1024] h
abbrev rowRect (s : ℕ) (h : ∀ a, (![s, 0, 0] : Fin 3 → ℕ) a + (![1, 1, 1024] : Fin 3 → ℕ) a ≤ S2x1x1024.size a) : Rect S2x1x1024 :=
  Rect.unit (s := S2x1x1024) ![s, 0, 0] ![1, 1, 1024] h

/-- A load from a staging slot, from a neighbour's row, from a row to send; a store of a row to send. -/
theorem load_stage {s r k : ℕ} {h} (hr : r + k ≤ 8) {f : S2x8x1024.Idx → F .bf16} {hl : stageM.view.LoadsAt (stageRect s r k h).toLoadRect}
    {Kt : ((stageRect s r k h).toLoadRect.shape.Idx → Elt F .bf16) → PR F α} :
    stagePts c s f ⊢ iprop((stagePts c s f -∗ runs c (Kt (stageM.view.readAt (Elt F) (stageRect s r k h).toLoadRect f)) Q)
        -∗ runs c (.op (.load stageM (stageRect s r k h).toLoadRect hl) Kt) Q) := by
  unfold stagePts
  refine wp_load 𝒱₀ (c : Thread nD τ) none Set.univ (m := stageM) ?_
  intro i hi
  have e : stageM.view.setOn (stageRect s r k h).toLoadRect.set = rows3 8 s r (r + k) :=
    (View.set_slice (View.whole cc0_scratch3) (stageRect s r k h)).symm.trans ((View.set_slice_whole cc0_scratch3 (stageRect s r k h)).trans (rect3_set h))
  rw [e] at hi
  obtain ⟨a, b, d⟩ := (mem_rows3 i).1 hi
  exact (mem_rows3 i).2 ⟨a, Nat.zero_le _, by omega⟩

theorem halo_sub {s : ℕ} (h) : haloM.view.setOn (rowRect s h).toLoadRect.set ⊆ rows3 1 s 0 1 :=
  subset_of_eq ((View.set_slice (View.whole cc0_scratch2) (rowRect s h)).symm.trans
    ((View.set_slice_whole cc0_scratch2 (rowRect s h)).trans (rect3_set h)))
theorem edge_sub {s : ℕ} (h) : edgeM.view.setOn (rowRect s h).toLoadRect.set ⊆ rows3 1 s 0 1 :=
  subset_of_eq ((View.set_slice (View.whole cc0_scratch4) (rowRect s h)).symm.trans
    ((View.set_slice_whole cc0_scratch4 (rowRect s h)).trans (rect3_set h)))

theorem load_halo {s : ℕ} {h} {f : S2x1x1024.Idx → F .bf16} {hl : haloM.view.LoadsAt (rowRect s h).toLoadRect}
    {Kt : ((rowRect s h).toLoadRect.shape.Idx → Elt F .bf16) → PR F α} :
    haloPts c s f ⊢ iprop((haloPts c s f -∗ runs c (Kt (haloM.view.readAt (Elt F) (rowRect s h).toLoadRect f)) Q)
        -∗ runs c (.op (.load haloM (rowRect s h).toLoadRect hl) Kt) Q) := by
  unfold haloPts
  exact wp_load 𝒱₀ (c : Thread nD τ) none Set.univ (m := haloM) (halo_sub h)
theorem load_edge {s : ℕ} {h} {f : S2x1x1024.Idx → F .bf16} {hl : edgeM.view.LoadsAt (rowRect s h).toLoadRect}
    {Kt : ((rowRect s h).toLoadRect.shape.Idx → Elt F .bf16) → PR F α} :
    edgePts c s f ⊢ iprop((edgePts c s f -∗ runs c (Kt (edgeM.view.readAt (Elt F) (rowRect s h).toLoadRect f)) Q)
        -∗ runs c (.op (.load edgeM (rowRect s h).toLoadRect hl) Kt) Q) := by
  unfold edgePts
  exact wp_load 𝒱₀ (c : Thread nD τ) none Set.univ (m := edgeM) (edge_sub h)
theorem store_edge {s : ℕ} {h} {f : S2x1x1024.Idx → F .bf16} {w : (rowRect s h).shape.Idx → F .bf16}
    {hx : (edgeM.access (rowRect s h)).Stores Finset.univ} {hm} {Kt : PUnit → PR F α} :
    edgePts c s f ⊢ iprop((edgePts c s ((edgeM.access (rowRect s h)).write (Elt F) f w Finset.univ) -∗ runs c (Kt ⟨⟩) Q)
        -∗ runs c (.op (.store edgeM (rowRect s h) w Finset.univ hx hm) Kt) Q) := by
  unfold edgePts
  refine wp_store 𝒱₀ (c : Thread nD τ) none Set.univ (m := edgeM) (r := rowRect s h) ?_
  refine Finset.Subset.trans (Finset.Subset.trans (subset_of_eq (View.set_slice _ _)) ?_) (edge_sub h)
  exact Finset.Subset.refl _

/-! ## The staged rows -/

/-- The units of eight staged rows. -/
abbrev stCr : ℕ := (cc0_scratch3 : Ref sig .tc).dmaCredit ⟨2, ![8, 1024]⟩ .bf16
theorem stCr_pos : 0 < stCr := View.dmaCredit_pos (slotOf stageM 0 0 8 inb_S2x8x1024_S1x8x1024_0_0_0 squeezes_S1x8x1024_S8x1024).view (by decide)

/-- A share of eight rows of the device's block. -/
def xEight (q : PosShare TreeShare) (r : ℕ) : sProp 𝕄 :=
  ((c : Thread nD τ).loc main_arg0) ↦[rows2 r (r + 8)]{q} (X c : Buf (Elt F) ((c : Thread nD τ).loc main_arg0))

/-- The eight rows of the block that go to a staging slot. -/
abbrev stRow (s : ℕ) : ℕ := if s = 0 then 0 else 2040

/-- What the two staging copies deliver. -/
def stageD (q : PosShare TreeShare) (t : Fin 2) : sProp 𝕄 := iprop(stagePts c t.val (stageOf X c) ∗ xEight X c q (stRow t.val))

instance stageD_storable (q : PosShare TreeShare) (t : Fin 2) : Storable (upEmb : UEmb _ 𝕄) (stageD X c q t) := by
  unfold stageD stagePts xEight; infer_instance

/-- The staging copies, `j` of them started and `u` units waited for. -/
abbrev staging (q : PosShare TreeShare) (j u : ℕ) : sProp 𝕄 := Batch EC (c : Thread nD τ) (.dma stageS) () stCr (stageD X c q) j u

theorem x_eights (q : PosShare TreeShare) :
    xAt X c q ⊢ iprop((xEight X c q (stRow 0) ∗ xEight X c q (stRow 1)) ∗ ((xEight X c q (stRow 0) ∗ xEight X c q (stRow 1)) -∗ (xAt X c q : sProp 𝕄))) := by
  have hd : Disjoint (rows2 0 (0 + 8)) (rows2 2040 (2040 + 8)) := by
    rw [Finset.disjoint_left]
    intro i h0 h1
    have h2 := (mem_rows2 i).1 h0
    have h3 := (mem_rows2 i).1 h1
    omega
  have hu : (((c : Thread nD τ).loc main_arg0) ↦[rows2 0 (0 + 8) ∪ rows2 2040 (2040 + 8)]{q} (X c : Buf (Elt F) ((c : Thread nD τ).loc main_arg0)) : sProp 𝕄)
      ⊣⊢ iprop((((c : Thread nD τ).loc main_arg0) ↦[rows2 0 (0 + 8)]{q} (X c : Buf (Elt F) ((c : Thread nD τ).loc main_arg0)))
        ∗ (((c : Thread nD τ).loc main_arg0) ↦[rows2 2040 (2040 + 8)]{q} (X c : Buf (Elt F) ((c : Thread nD τ).loc main_arg0)))) := pointsTo_union hd
  unfold xAt xEight
  rw [show stRow 0 = 0 from rfl, show stRow 1 = 2040 from rfl]
  iintro H
  ihave H' := (pointsTo_split_subset (ℓ := (c : Thread nD τ).loc main_arg0) (Finset.subset_univ (rows2 0 (0 + 8) ∪ rows2 2040 (2040 + 8)))).1 $$ H
  icases H' with ⟨H1, H2⟩
  isplitl [H1]
  · iapply hu.1; iexact H1
  iintro H1
  iapply (pointsTo_split_subset (ℓ := (c : Thread nD τ).loc main_arg0) (Finset.subset_univ (rows2 0 (0 + 8) ∪ rows2 2040 (2040 + 8)))).2
  isplitl [H1]
  · iapply hu.2; iexact H1
  · iexact H2

theorem stage_alloc (q : PosShare TreeShare) : (free c stageS : sProp 𝕄) ⊢ |={Set.univ}=> staging X c q 0 0 :=
  batch_alloc' EC (c : Thread nD τ) () stCr (stageD X c q)

/-- A staging copy is started. -/
theorem start_stage {s r0 : ℕ} {hx} {h} {sq} (hs : s < 2) (hr : r0 = stRow s) (q : PosShare TreeShare)
    {hsrc : (rowsOf xM r0 8 hx).view.WordExact} {hdst : (slotOf stageM s 0 8 h sq).view.WordExact}
    {hsem : DmaTarget.Typed (nD := nD) .hbm (.dma stageS) (DmaTarget.here (p := (.tc : Proc τ)) (slotOf stageM s 0 8 h sq))} {Kt : PUnit → PR F α} :
    iprop(stageAny c s ∗ xEight X c q r0 ∗ staging X c q s 0)
      ⊢ iprop((staging X c q (s + 1) 0 -∗ runs c (Kt ⟨⟩) Q)
        -∗ runs c (.op (.enqueueDmaAs (rowsOf xM r0 8 hx) (.here (slotOf stageM s 0 8 h sq)) .same (.dma stageS) hsrc hdst hsem) Kt) Q) := by
  subst hr
  unfold stageAny stagePts
  iintro ⟨⟨%fd, Hd⟩, Hx, HB⟩ Hk
  iapply (wp_dmaBatch EC 𝒱₀ (c : Thread nD τ) none (D := stageD X c q) (src := rowsOf xM (stRow s) 8 hx) (dst := slotOf stageM s 0 8 h sq) (fs := (X c : Buf (Elt F) ((c : Thread nD τ).loc main_arg0)))
      (q := q) (fd := fd) (Sd := rows3 8 s 0 8) () stCr rfl (by rw [stage_set]) hs (Nat.zero_le _) (by
        unfold stageD stagePts xEight
        rw [x_set]
        refine sep_mono_left (Entails.of_eq (pointsTo_congr ?_))
        exact fill_stage X c hx h sq rfl fd)) $$ [Hd Hx HB]
  · isplitl [Hx]
    · unfold xEight; rw [x_set]; iexact Hx
    isplitl [Hd]; · iexact Hd
    iexact HB
  iexact Hk

/-- The first wait for the staging copies, and the second. -/
theorem wait_stage1 (q : PosShare TreeShare) {sp sp' : Space} {s s' : Shape} {e e' : EltTy}
    {srcw : Memref sig .tc sp' s' e'} {dstw : Memref sig .tc sp s e} {hsrc : srcw.view.WordExact} {hdst : dstw.view.WordExact}
    (hn : dstw.view.dmaCredit = stCr) {Kt : PUnit → PR F α} :
    iprop(ctx X K ∗ staging X c q 2 0 ∗ owing c (Orow c))
      ⊢ iprop((iprop(staging X c q 2 stCr ∗ owing c (Orow c)) -∗ runs c (Kt ⟨⟩) Q) -∗ runs c (.op (.waitDma2 stageS srcw dstw hsrc hdst) Kt) Q) := by
  have hp := stCr_pos
  unfold owing
  iintro ⟨#Hctx, HB, ⟨%W, HO⟩⟩ Hk
  ihave #Hlev := (ctx_lev X K) $$ Hctx
  iapply (wp_waitBatchO EC 𝒱₀ (c : Thread nD τ) none () hn (D := stageD X c q) (u := 0) (by omega)) $$ [HB HO]
  · isplitl [HB]; · iexact HB
    isplitl [HO]; · iexact HO
    iapply (mayWait_row c (.dma stageS) (show lv ((c : Thread nD τ), .dma stageS) () ≤ 1 by
      show (if stageS = recv0S ∨ stageS = recv1S then 2 else 0) ≤ 1
      rw [if_neg (by decide)]; exact Nat.zero_le _)); iexact Hlev
  iintro ⟨HB, HO⟩
  iapply Hk
  isplitl [HB]
  · rw [Nat.zero_add]; iexact HB
  · iexists _; iexact HO
theorem wait_stage2 (q : PosShare TreeShare) {sp sp' : Space} {s s' : Shape} {e e' : EltTy}
    {srcw : Memref sig .tc sp' s' e'} {dstw : Memref sig .tc sp s e} {hsrc : srcw.view.WordExact} {hdst : dstw.view.WordExact}
    (hn : dstw.view.dmaCredit = stCr) {Kt : PUnit → PR F α} :
    iprop(ctx X K ∗ staging X c q 2 stCr ∗ owing c (Orow c))
      ⊢ iprop((iprop((xEight X c q (stRow 0) ∗ xEight X c q (stRow 1)) ∗ stagePts c 0 (stageOf X c) ∗ stagePts c 1 (stageOf X c) ∗ free c stageS ∗ owing c (Orow c))
        -∗ runs c (Kt ⟨⟩) Q) -∗ runs c (.op (.waitDma2 stageS srcw dstw hsrc hdst) Kt) Q) := by
  have hp := stCr_pos
  have hD : bigSep Finset.univ (stageD X c q) = iprop(stageD X c q 0 ∗ stageD X c q 1) :=
    (bigSep_eq_bigSepL_of_eq [0, 1] (by decide) (by decide) _).trans rfl
  unfold owing
  iintro ⟨#Hctx, HB, ⟨%W, HO⟩⟩ Hk
  ihave #Hlev := (ctx_lev X K) $$ Hctx
  iapply (wp_waitBatchLastO EC 𝒱₀ (c : Thread nD τ) none () hn hp (D := stageD X c q) (u := stCr) (by omega)) $$ [HB HO]
  · isplitl [HB]; · iexact HB
    isplitl [HO]; · iexact HO
    iapply (mayWait_row c (.dma stageS) (show lv ((c : Thread nD τ), .dma stageS) () ≤ 1 by
      show (if stageS = recv0S ∨ stageS = recv1S then 2 else 0) ≤ 1
      rw [if_neg (by decide)]; exact Nat.zero_le _)); iexact Hlev
  rw [hD]
  unfold stageD
  iintro ⟨⟨⟨H0, X0⟩, H1, X1⟩, Hv, HO⟩
  iapply Hk
  isplitl [X0 X1]
  · isplitl [X0]; · iexact X0
    iexact X1
  isplitl [H0]; · iexact H0
  isplitl [H1]; · iexact H1
  isplitl [Hv]; · iexact Hv
  iexists _; iexact HO

/-! ## A row stored and sent -/

/-- Slot `s` of the rows to send holds row `g` of the array. -/
def edgeIs (g s : ℕ) : sProp 𝕄 := iprop(∃ f, ⌜HaloHas X g s f⌝ ∗ edgePts c s f)

theorem edge_row_has {s r g : ℕ} {h he} (hr : r < 8) (hg : g = c.val * 2048 + stRow s + r) (f : S2x1x1024.Idx → F .bf16) (w : S1x1x1024.Idx → F .bf16)
    (hw : w = k0_pay1 (stageM.view.readAt (Elt F) (stageRect s r 1 h).toLoadRect (stageOf X c))) :
    HaloHas X g s ((edgeM.access (rowRect s he)).write (Elt F) f w Finset.univ) := by
  intro i h0
  have h1 : (i 1).val < 1 := (i 1).isLt
  have h2 : (i 2).val < 1024 := (i 2).isLt
  have hs2 : s + 1 ≤ 2 := h 0
  refine (congrFun (edge_id _) i).symm.trans ?_
  refine (write_slot edgeM he f w (ValueIdx.ix3 (⟨0, Nat.one_pos⟩ : Fin 1) (⟨0, Nat.one_pos⟩ : Fin 1) (⟨(i 2).val, h2⟩ : Fin 1024)) i h0
    (by show _ = 0 + 0; omega) rfl).trans ?_
  rw [hw]
  refine (congrFun (pay_row _) _).trans ?_
  refine (read_slot stageM h (stageOf X c) _ (ValueIdx.ix3 (⟨s, by omega⟩ : Fin 2) (⟨r, hr⟩ : Fin 8) (⟨(i 2).val, h2⟩ : Fin 1024)) rfl
    (by show r = r + 0; omega) rfl).trans ?_
  rw [stage_id, hg]
  rfl

theorem edge_row {s r g : ℕ} {h he} (hr : r < 8) (hg : g = c.val * 2048 + stRow s + r)
    {hl : stageM.view.LoadsAt (stageRect s r 1 h).toLoadRect} {hl' : edgeM.view.LoadsAt (rowRect s he).toLoadRect}
    {hx : (edgeM.access (rowRect s he)).Stores Finset.univ} {hm} {Kt : PUnit → PR F α} :
    iprop(stagePts c s (stageOf X c) ∗ edgeAny c s)
      ⊢ iprop((iprop(stagePts c s (stageOf X c) ∗ edgeIs X c g s) -∗ runs c (Kt ⟨⟩) Q)
        -∗ runs c (.op (.load stageM (stageRect s r 1 h).toLoadRect hl) fun v => .op (.load edgeM (rowRect s he).toLoadRect hl') fun _ =>
            .op (.store edgeM (rowRect s he) (k0_pay1 v) Finset.univ hx hm) Kt) Q) := by
  unfold edgeAny edgeIs
  iintro ⟨Hs, ⟨%f, He⟩⟩ Hk
  iapply (load_stage c (by omega)) $$ Hs
  iintro Hs
  iapply (load_edge c) $$ He
  iintro He
  iapply (store_edge c) $$ He
  iintro He
  iapply Hk
  isplitl [Hs]; · iexact Hs
  iexists _
  isplitr
  rotate_left
  · iexact He
  · ipureintro
    exact edge_row_has X c hr hg f _ rfl

/-- A row copied into a neighbour's slot. -/
theorem fill_halo {se sh g : ℕ} (hs hh sq sq') (fs fd : S2x1x1024.Idx → F .bf16) (hf : HaloHas X g se fs) :
    HaloHas X g sh ((slotOf haloM sh 0 1 hh sq').view.write (Elt F) fd ((slotOf edgeM se 0 1 hs sq).view.read (Elt F) fs) Finset.univ) := by
  intro i h0
  have h1 : (i 1).val < 1 := (i 1).isLt
  have h2 : (i 2).val < 1024 := (i 2).isLt
  have hs2 : se + 1 ≤ 2 := hs 0
  refine (congrFun (halo_id _) i).symm.trans ?_
  refine (write_win3 haloM hh _ sq' fd _ (ValueIdx.ix2 (⟨0, Nat.one_pos⟩ : Fin 1) (⟨(i 2).val, h2⟩ : Fin 1024)) i h0
    (by show _ = 0 + 0; omega) rfl).trans ?_
  refine (read_win3 edgeM hs _ sq fs _ (ValueIdx.ix3 (⟨se, by omega⟩ : Fin 2) (⟨0, Nat.one_pos⟩ : Fin 1) (⟨(i 2).val, h2⟩ : Fin 1024)) rfl rfl rfl).trans ?_
  rw [edge_id]
  exact hf _ rfl

/-- The transfer of a row to device `d`, which pays a duty of this device's send semaphore and one of `d`'s receive semaphore. -/
theorem send_row {se sh g : ℕ} {d n : Dev nD} (x1 x2 : Fin 5) {q1 q2 : DmaSem sig} (hx1 : kcell (c, x1) = dmaCell c q1) (hx2 : kcell (d, x2) = dmaCell d q2)
    (hd1 : dutiesOf c (.dma q1) = {false}) (hd2 : dutiesOf d (.dma q2) = {false})
    (hp1 : payOf X c false (.dma q1) = edgeAny c se) (hp2 : payOf X d false (.dma q2) = haloIs X d g sh) {O O' : CellTallies nD τ sig Unit}
    (hO : O' = O + tallyAt (dmaCell d q2) () N) (hn : n = d) {hs hh sq sq'}
    {hsc : (slotOf haloM sh 0 1 hh sq' : Memref sig (Dev.tc n : Thread nD τ).2.kind .vmem ⟨2, ![1, 1024]⟩ .bf16).view.ref.isScScratch = false}
    {hsrc : (slotOf edgeM se 0 1 hs sq).view.WordExact} {hdst : (slotOf haloM sh 0 1 hh sq').view.WordExact}
    {hsem : DmaTarget.Typed .vmem (.dma q2) (.remote (Dev.tc n : Thread nD τ) (slotOf haloM sh 0 1 hh sq' : Memref sig .tc .vmem ⟨2, ![1, 1024]⟩ .bf16) (.dma q1) hsc)}
    {Kt : PUnit → PR F α} :
    iprop(ctx X K ∗ owing c O' ∗ edgeIs X c g se ∗ haloAny d sh ∗ dutyTok ER (dmaCell c q1) 0 false ∗ dutyTok ER (dmaCell d q2) 0 false)
      ⊢ iprop((iprop(owing c O ∗ cred (tallyAt (dmaCell c q1) () N)) -∗ runs c (Kt ⟨⟩) Q)
        -∗ runs c (.op (.enqueueDma (slotOf edgeM se 0 1 hs sq) (.remote (Dev.tc n : Thread nD τ) (slotOf haloM sh 0 1 hh sq') (.dma q1) hsc) (.dma q2) hsrc hdst hsem) Kt) Q) := by
  subst hn
  unfold owing edgeIs haloAny
  iintro ⟨#Hctx, ⟨%W, HO⟩, ⟨%fs, %hf, He⟩, ⟨%fd, Hh⟩, Ht1, Ht2⟩ Hk
  ihave #HI1 := (ctx_inv X K (c, x1) hx1) $$ Hctx
  ihave #HI2 := (ctx_inv X K (n, x2) hx2) $$ Hctx
  ihave #Hr1 := (ctx_reached X K (c, x1) hx1) $$ Hctx
  ihave #Hr2 := (ctx_reached X K (n, x2) hx2) $$ Hctx
  iapply (Rounds.wp_send_pointsTo 𝒱₀ ER (Rd X) (c : Thread nD τ) none (κ₁ := K (c, x1)) (κ₂ := K (n, x2)) (c' := (Dev.tc n : Thread nD τ))
    (src := slotOf edgeM se 0 1 hs sq) (dst := slotOf haloM sh 0 1 hh sq') (q := fullShare) (fs := fs)
    (r₁ := 0) (r₂ := 0) (d₁ := false) (d₂ := false) (fd := fd)
    (by rw [duties_at, hd1]; exact Finset.mem_singleton_self _) (by rw [duties_at, hd2]; exact Finset.mem_singleton_self _)
    () () N rfl rfl rfl O hO (W := W)
    (by
      show _ ⊢ payOf X c false (.dma q1)
      rw [hp1, edge_set]
      unfold edgeAny edgePts
      iintro H; iexists fs; iexact H)
    (by
      show _ ⊢ payOf X n false (.dma q2)
      rw [hp2, halo_set]
      unfold haloIs haloPts
      iintro H
      iexists _
      isplitr
      · ipureintro; exact fill_halo X hs hh sq sq' fs fd hf
      · iexact H)) $$ [HO He Hh Ht1 Ht2]
  · isplitr; · iexact HI1
    isplitr; · iexact HI2
    isplitl [He]; · rw [edge_set]; unfold edgePts; iexact He
    isplitl [Hh]; · rw [halo_set]; unfold haloPts; iexact Hh
    isplitl [HO]; · iexact HO
    isplitl [Ht1]; · iexact Ht1
    isplitr; · iexact Hr1
    isplitl [Ht2]; · iexact Ht2
    iexact Hr2
  iintro ⟨Hc, HO⟩
  iapply Hk
  isplitl [HO]
  · iexists W; iexact HO
  · iexact Hc

/-- The last row to the device after this one; the first row to the device before it. -/
theorem send_right {p : Prop} [Decidable p] (hp : p ↔ HasR c) {n : p → Dev nD} (hn : ∀ h, n h = nxt c) {h he hh sq sq'}
    {hl : stageM.view.LoadsAt (stageRect 1 7 1 h).toLoadRect} {hl' : edgeM.view.LoadsAt (rowRect 1 he).toLoadRect}
    {hx : (edgeM.access (rowRect 1 he)).Stores Finset.univ} {hm}
    {hsc : ∀ k : p, (slotOf haloM 0 0 1 hh sq' : Memref sig (Dev.tc (n k) : Thread nD τ).2.kind .vmem ⟨2, ![1, 1024]⟩ .bf16).view.ref.isScScratch = false}
    {hsrc : (slotOf edgeM 1 0 1 he sq).view.WordExact} {hdst : (slotOf haloM 0 0 1 hh sq').view.WordExact}
    {hsem : ∀ k : p, DmaTarget.Typed .vmem (.dma recv0S) (.remote (Dev.tc (n k) : Thread nD τ) (slotOf haloM 0 0 1 hh sq' : Memref sig .tc .vmem ⟨2, ![1, 1024]⟩ .bf16) (.dma send0S) (hsc k))}
    {β : Type} {kk : PR F β} {Q : β → sProp 𝕄} :
    iprop(ctx X K ∗ owing c (Orow c) ∗ stagePts c 1 (stageOf X c) ∗ edgeAny c 1 ∗ onlyIf (HasR c) (haloAny (nxt c) 0)
        ∗ onlyIf (HasR c) (dutyTok ER (dmaCell c send0S) 0 false) ∗ onlyIf (HasR c) (dutyTok ER (dmaCell (nxt c) recv0S) 0 false))
      ⊢ iprop((iprop(owing c (owL c) ∗ stageAny c 1 ∗ onlyIf (¬ HasR c) (edgeAny c 1) ∗ onlyIf (HasR c) (cred (tallyAt (dmaCell c send0S) () N))) -∗ runs c kk Q)
        -∗ runs c (dite p (fun k => .op (.load stageM (stageRect 1 7 1 h).toLoadRect hl) fun v => .op (.load edgeM (rowRect 1 he).toLoadRect hl') fun _ =>
            .op (.store edgeM (rowRect 1 he) (k0_pay1 v) Finset.univ hx hm) fun _ =>
            .op (.enqueueDma (slotOf edgeM 1 0 1 he sq) (.remote (Dev.tc (n k) : Thread nD τ) (slotOf haloM 0 0 1 hh sq') (.dma send0S) (hsc k)) (.dma recv0S) hsrc hdst (hsem k)) fun _ => kk)
            (fun _ => kk)) Q) := by
  refine branch c hp (fun k hq => ?_) (fun hq => ?_)
  · rw [onlyIf_pos hq, onlyIf_pos hq, onlyIf_pos hq, onlyIf_neg (not_not.2 hq), onlyIf_pos hq]
    iintro ⟨#Hctx, HO, Hs, He, Hh, Ht1, Ht2⟩ Hk
    iapply (edge_row X c (g := (nxt c).val * 2048 - 1) (by decide) (by rw [nxt_val c hq]; show _ = c.val * 2048 + 2040 + 7; omega)) $$ [Hs He]
    · isplitl [Hs] <;> iassumption
    iintro ⟨Hs, He⟩
    iapply (send_row X K c (d := nxt c) 1 3 rfl rfl (by rw [dutiesOf_send0, if_pos hq]) (by rw [dutiesOf_recv0, if_pos (hasL_nxt c hq)])
      (payOf_send0 X c false) (payOf_recv0 X (nxt c) false) (O := owL c) (O' := Orow c) (by unfold Orow owR; rw [if_pos hq]) (hn k)) $$ [HO He Hh Ht1 Ht2]
    · isplitr; · iexact Hctx
      isplitl [HO]; · iexact HO
      isplitl [He]; · iexact He
      isplitl [Hh]; · iexact Hh
      isplitl [Ht1] <;> iassumption
    iintro ⟨HO, Hc⟩
    iapply Hk
    isplitl [HO]; · iexact HO
    isplitl [Hs]
    · unfold stageAny; iexists _; iexact Hs
    isplitr
    · iempintro
    · iexact Hc
  · rw [onlyIf_pos hq, onlyIf_neg hq]
    unfold Orow owR stageAny
    rw [if_neg hq, add_zero]
    iintro ⟨-, HO, Hs, He, -⟩
    isplitl [HO]; · iexact HO
    isplitl [Hs]
    · iexists _; iexact Hs
    isplitl [He]; · iexact He
    rw [onlyIf_neg hq]
    iempintro

theorem send_left {p : Prop} [Decidable p] (hp : p ↔ HasL c) {n : p → Dev nD} (hn : ∀ h, n h = prv c) {h he hh sq sq'}
    {hl : stageM.view.LoadsAt (stageRect 0 0 1 h).toLoadRect} {hl' : edgeM.view.LoadsAt (rowRect 0 he).toLoadRect}
    {hx : (edgeM.access (rowRect 0 he)).Stores Finset.univ} {hm}
    {hsc : ∀ k : p, (slotOf haloM 1 0 1 hh sq' : Memref sig (Dev.tc (n k) : Thread nD τ).2.kind .vmem ⟨2, ![1, 1024]⟩ .bf16).view.ref.isScScratch = false}
    {hsrc : (slotOf edgeM 0 0 1 he sq).view.WordExact} {hdst : (slotOf haloM 1 0 1 hh sq').view.WordExact}
    {hsem : ∀ k : p, DmaTarget.Typed .vmem (.dma recv1S) (.remote (Dev.tc (n k) : Thread nD τ) (slotOf haloM 1 0 1 hh sq' : Memref sig .tc .vmem ⟨2, ![1, 1024]⟩ .bf16) (.dma send1S) (hsc k))}
    {β : Type} {kk : PR F β} {Q : β → sProp 𝕄} :
    iprop(ctx X K ∗ owing c (owL c) ∗ stagePts c 0 (stageOf X c) ∗ edgeAny c 0 ∗ onlyIf (HasL c) (haloAny (prv c) 1)
        ∗ onlyIf (HasL c) (dutyTok ER (dmaCell c send1S) 0 false) ∗ onlyIf (HasL c) (dutyTok ER (dmaCell (prv c) recv1S) 0 false))
      ⊢ iprop((iprop(owing c 0 ∗ stageAny c 0 ∗ onlyIf (¬ HasL c) (edgeAny c 0) ∗ onlyIf (HasL c) (cred (tallyAt (dmaCell c send1S) () N))) -∗ runs c kk Q)
        -∗ runs c (dite p (fun k => .op (.load stageM (stageRect 0 0 1 h).toLoadRect hl) fun v => .op (.load edgeM (rowRect 0 he).toLoadRect hl') fun _ =>
            .op (.store edgeM (rowRect 0 he) (k0_pay2 v) Finset.univ hx hm) fun _ =>
            .op (.enqueueDma (slotOf edgeM 0 0 1 he sq) (.remote (Dev.tc (n k) : Thread nD τ) (slotOf haloM 1 0 1 hh sq') (.dma send1S) (hsc k)) (.dma recv1S) hsrc hdst (hsem k)) fun _ => kk)
            (fun _ => kk)) Q) := by
  refine branch c hp (fun k hq => ?_) (fun hq => ?_)
  · rw [onlyIf_pos hq, onlyIf_pos hq, onlyIf_pos hq, onlyIf_neg (not_not.2 hq), onlyIf_pos hq]
    iintro ⟨#Hctx, HO, Hs, He, Hh, Ht1, Ht2⟩ Hk
    iapply (edge_row X c (g := (prv c).val * 2048 + 2048) (by decide) (by have := prv_val c hq; show _ = c.val * 2048 + 0 + 0; omega)) $$ [Hs He]
    · isplitl [Hs] <;> iassumption
    iintro ⟨Hs, He⟩
    iapply (send_row X K c (d := prv c) 2 4 rfl rfl (by rw [dutiesOf_send1, if_pos hq]) (by rw [dutiesOf_recv1, if_pos (hasR_prv c hq)])
      (payOf_send1 X c false) (payOf_recv1 X (prv c) false) (O := 0) (O' := owL c) (by unfold owL; rw [if_pos hq, zero_add]) (hn k)) $$ [HO He Hh Ht1 Ht2]
    · isplitr; · iexact Hctx
      isplitl [HO]; · iexact HO
      isplitl [He]; · iexact He
      isplitl [Hh]; · iexact Hh
      isplitl [Ht1] <;> iassumption
    iintro ⟨HO, Hc⟩
    iapply Hk
    isplitl [HO]; · iexact HO
    isplitl [Hs]
    · unfold stageAny; iexists _; iexact Hs
    isplitr
    · iempintro
    · iexact Hc
  · rw [onlyIf_pos hq, onlyIf_neg hq]
    unfold owL stageAny
    rw [if_neg hq]
    iintro ⟨-, HO, Hs, He, -⟩
    isplitl [HO]; · iexact HO
    isplitl [Hs]
    · iexists _; iexact Hs
    isplitl [He]; · iexact He
    rw [onlyIf_neg hq]
    iempintro

/-! ## A row patched in -/

/-- The neighbour's row, which only a device with that neighbour has. -/
def haloGot (live : Prop) (g s : ℕ) : sProp 𝕄 := iprop(∃ f, ⌜live → HaloHas X g s f⌝ ∗ haloPts c s f)

theorem patch_in_has {b s r p lo hi lo' hi' : ℕ} {h} (hp : p < 2) (f : S2x272x1024.Idx → F .bf16) (w : S1x1x1024.Idx → F .bf16) (hs)
    (hf : InHas X c b s lo hi f)
    (hw : lo' ≤ r + p → r + p < hi' → ∀ col : Fin 1024, w (ValueIdx.ix3 (⟨0, Nat.one_pos⟩ : Fin 1) (⟨0, Nat.one_pos⟩ : Fin 1) col) = gx X (c.val * 2048 + b * 256 + (r + p) - 8) col)
    (hi0 : ∀ i, lo' ≤ i → i < hi' → i = r + p ∨ (lo ≤ i ∧ i < hi)) :
    InHas X c b s lo' hi' ((inM.access (inRect s r 2 h)).write (Elt F) f
      (updateSlice (s := S1x2x1024) (inM.view.readAt (Elt F) (inRect s r 2 h).toLoadRect f) w ![0, p, 0] hs) Finset.univ) := by
  intro i h0 h1 h2
  refine (congrFun (in_id _) i).symm.trans ((put_row inM h hp f w hs i).trans ?_)
  by_cases hi : (i 1).val = r + p
  · rw [if_pos ⟨h0, hi⟩, hw (by omega) (by omega), hi]
  · rw [if_neg (fun hh => hi hh.2), in_id]
    rcases hi0 _ h1 h2 with e | ⟨e1, e2⟩
    · exact absurd e hi
    · exact hf i h0 e1 e2

theorem patch_in {b s sh r p r1 g lo hi lo' hi' : ℕ} {live : Prop} {hh h1 h} (hp : p < 2) (hr : r + 2 ≤ 272) (hr1 : r1 + 1 ≤ 272) {hs}
    (hg : lo' ≤ r + p → r + p < hi' → live ∧ g = c.val * 2048 + b * 256 + (r + p) - 8)
    (hi0 : ∀ i, lo' ≤ i → i < hi' → i = r + p ∨ (lo ≤ i ∧ i < hi))
    {hl : haloM.view.LoadsAt (rowRect sh hh).toLoadRect} {hl1 : inM.view.LoadsAt (inRect s r1 1 h1).toLoadRect}
    {hl2 : inM.view.LoadsAt (inRect s r 2 h).toLoadRect} {hx : (inM.access (inRect s r 2 h)).Stores Finset.univ} {hm} {Kt : PUnit → PR F α} :
    iprop(haloGot X c live g sh ∗ inIs X c s b lo hi)
      ⊢ iprop((iprop(haloAny c sh ∗ inIs X c s b lo' hi') -∗ runs c (Kt ⟨⟩) Q)
        -∗ runs c (.op (.load haloM (rowRect sh hh).toLoadRect hl) fun v => .op (.load inM (inRect s r1 1 h1).toLoadRect hl1) fun _ =>
            .op (.load inM (inRect s r 2 h).toLoadRect hl2) fun old =>
            .op (.store inM (inRect s r 2 h) (updateSlice (s := S1x2x1024) old (k0_pay11 v) ![0, p, 0] hs) Finset.univ hx hm) Kt) Q) := by
  unfold haloGot inIs
  iintro ⟨⟨%fh, %hfh, Hh⟩, ⟨%f, %hf, Hi⟩⟩ Hk
  iapply (load_halo c) $$ Hh
  iintro Hh
  iapply (load_in c hr1) $$ Hi
  iintro Hi
  iapply (load_in c hr) $$ Hi
  iintro Hi
  iapply (store_in c hr) $$ Hi
  iintro Hi
  iapply Hk
  isplitl [Hh]
  · unfold haloAny; iexists fh; iexact Hh
  iexists _
  isplitr
  rotate_left
  · iexact Hi
  · ipureintro
    refine patch_in_has X c hp f _ hs hf ?_ hi0
    intro a b col
    obtain ⟨hlive, hg⟩ := hg a b
    have hs2 : sh + 1 ≤ 2 := hh 0
    refine (congrFun (pay_row _) _).trans ?_
    refine (read_slot haloM hh fh _ (ValueIdx.ix3 (⟨sh, by omega⟩ : Fin 2) (⟨0, Nat.one_pos⟩ : Fin 1) col) rfl rfl rfl).trans ?_
    rw [halo_id, ← hg]
    exact hfh hlive _ rfl

theorem patch_out_has {b s r p ri li hi lo hi' : ℕ} {h1 h} (hp : p < 2) (f : S2x272x1024.Idx → F .bf16) (g : S2x256x1024.Idx → F .bf16) (w : S1x1x1024.Idx → F .bf16) (hs)
    (hf : InHas X c b s li hi f) (hgo : OutHas X c b s lo hi' g) (hri : ri = r + p + 8) (hri' : li ≤ ri ∧ ri < hi)
    (hw : w = k0_pay14 (inM.view.readAt (Elt F) (inRect s ri 1 h1).toLoadRect f))
    (hg : c.val * 2048 + b * 256 + (r + p) = 0 ∨ c.val * 2048 + b * 256 + (r + p) = 8191)
    (hi0 : ∀ i, i < 256 → i = r + p ∨ (lo ≤ i ∧ i < hi')) :
    OutHas X c b s 0 256 ((outM.access (outRect s r 2 h)).write (Elt F) g
      (updateSlice (s := S1x2x1024) (outM.view.readAt (Elt F) (outRect s r 2 h).toLoadRect g) w ![0, p, 0] hs) Finset.univ) := by
  intro i h0 _ hlt
  have i2 : (i 2).val < 1024 := (i 2).isLt
  have hs2 : s + 1 ≤ 2 := h 0
  have hri2 : ri + 1 ≤ 272 := h1 1
  refine (congrFun (out_id _) i).symm.trans ((put_row outM h hp g w hs i).trans ?_)
  by_cases he : (i 1).val = r + p
  · rw [if_pos ⟨h0, he⟩, hw]
    refine (congrFun (pay_row _) _).trans ?_
    refine (read_slot inM h1 f _ (ValueIdx.ix3 (⟨s, by omega⟩ : Fin 2) (⟨ri, by omega⟩ : Fin 272) (⟨(i 2).val, i2⟩ : Fin 1024)) rfl rfl rfl).trans ?_
    rw [in_id]
    refine (hf _ rfl hri'.1 hri'.2).trans ?_
    unfold specRow
    rw [he, if_pos hg]
    congr 1
    show c.val * 2048 + b * 256 + ri - 8 = _
    omega
  · rw [if_neg (fun hh => he hh.2), out_id]
    rcases hi0 _ hlt with e | ⟨e1, e2⟩
    · exact absurd e he
    · exact hgo i h0 e1 e2

/-- The array's own first or last row is put into the output block as it is, on the device that has it. -/
theorem patch_out {q₀ q : Prop} [Decidable q₀] (hq : q₀ ↔ q) {b s r p ri r1 li hi lo hi' : ℕ} {h1 h2 h} (hp : p < 2) (hr : r + 2 ≤ 256) (hr1 : r1 + 1 ≤ 256) {hs}
    (hri : ri = r + p + 8) (hri' : q → li ≤ ri ∧ ri < hi)
    (hg : q → c.val * 2048 + b * 256 + (r + p) = 0 ∨ c.val * 2048 + b * 256 + (r + p) = 8191)
    (hi0 : ∀ i, i < 256 → (q ∧ i = r + p) ∨ (lo ≤ i ∧ i < hi'))
    {hl : inM.view.LoadsAt (inRect s ri 1 h1).toLoadRect} {hl1 : outM.view.LoadsAt (outRect s r1 1 h2).toLoadRect}
    {hl2 : outM.view.LoadsAt (outRect s r 2 h).toLoadRect} {hx : (outM.access (outRect s r 2 h)).Stores Finset.univ} {hm} {β : Type} {kk : PR F β} {Q : β → sProp 𝕄} :
    iprop(inIs X c s b li hi ∗ outIs X c s b lo hi')
      ⊢ iprop((iprop(inAny c s ∗ outIs X c s b 0 256) -∗ runs c kk Q)
        -∗ runs c (dite q₀ (fun _ => .op (.load inM (inRect s ri 1 h1).toLoadRect hl) fun v => .op (.load outM (outRect s r1 1 h2).toLoadRect hl1) fun _ =>
            .op (.load outM (outRect s r 2 h).toLoadRect hl2) fun old =>
            .op (.store outM (outRect s r 2 h) (updateSlice (s := S1x2x1024) old (k0_pay14 v) ![0, p, 0] hs) Finset.univ hx hm) fun _ => kk) (fun _ => kk)) Q) := by
  refine branch c hq (fun _ hq => ?_) (fun hq => ?_)
  · unfold inIs outIs inAny
    iintro ⟨⟨%f, %hf, Hi⟩, ⟨%g, %hgo, Ho⟩⟩ Hk
    iapply (load_in c (by obtain ⟨-, h⟩ := hri' hq; have := h1 1; exact this)) $$ Hi
    iintro Hi
    iapply (load_out c hr1) $$ Ho
    iintro Ho
    iapply (load_out c hr) $$ Ho
    iintro Ho
    iapply (store_out c hr) $$ Ho
    iintro Ho
    iapply Hk
    isplitl [Hi]
    · iexists f; iexact Hi
    iexists _
    isplitr
    rotate_left
    · iexact Ho
    · ipureintro
      exact patch_out_has X c hp f g _ hs hf hgo hri (hri' hq) rfl (hg hq) (fun i h => (hi0 i h).imp_left And.right)
  · iintro ⟨Hi, Ho⟩
    isplitl [Hi]
    · iapply (inIs_any X c); iexact Hi
    unfold outIs
    icases Ho with ⟨%g, %hgo, Ho⟩
    iexists g
    isplitr
    · ipureintro
      intro i h0 _ hlt
      rcases hi0 _ hlt with e | ⟨e1, e2⟩
      · exact absurd e.1 hq
      · exact hgo i h0 e1 e2
    · iexact Ho

end Rows

end Cert.KernelIdealProof
-- ==== Proof.KernelIdeal.Walk.lean ====
/- The kernel's body, part by part: what each part needs and what it leaves. -/
module

public import proofs.«01_k».proof.Proof.KernelIdeal.Rows

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## The words the branches read -/

/-- The device's place, whether a device comes before it, whether one comes after it. -/
abbrev wPos (c : Dev nD) : BitVec 32 := Scalar.remsi (Scalar.divsi (Dev.word c) 1#32) 4#32
abbrev wL (c : Dev nD) : BitVec 1 := Scalar.cmpi .sgt (wPos c) 0#32
abbrev wR (c : Dev nD) : BitVec 1 := Scalar.cmpi .slt (wPos c) 3#32

theorem cond1_iff (c : Dev nD) : k0_cond1 c = 1#1 ↔ HasL c := by revert c; decide
theorem cond2_iff (c : Dev nD) : k0_cond2 c = 1#1 ↔ HasR c := by revert c; decide
theorem cond5_iff (c : Dev nD) : k0_cond5 c = 1#1 ↔ HasR c := by revert c; decide
theorem cond6_iff (c : Dev nD) : k0_cond6 c = 1#1 ↔ HasL c := by revert c; decide
theorem left_iff (c : Dev nD) : Scalar.cmpi .ne (Scalar.extui (wL c) : BitVec 32) 0#32 = 1#1 ↔ HasL c := by revert c; decide
theorem right_iff (c : Dev nD) : Scalar.cmpi .ne (Scalar.extui (wR c) : BitVec 32) 0#32 = 1#1 ↔ HasR c := by revert c; decide
theorem first_iff (c : Dev nD) : Scalar.cmpi .ne (Scalar.extui (Scalar.cmpi .eq (wPos c) 0#32) : BitVec 32) 0#32 = 1#1 ↔ c.val = 0 := by revert c; decide
theorem last_iff (c : Dev nD) : Scalar.cmpi .ne (Scalar.extui (Scalar.cmpi .eq (wPos c) 3#32) : BitVec 32) 0#32 = 1#1 ↔ c.val = 3 := by revert c; decide
theorem dev1_eq (c : Dev nD) (h : k0_cond1 c = 1#1) : (⟨k0_dev1 c, k0_dev1_lt c h⟩ : Dev nD) = prv c :=
  Fin.ext ((by decide : ∀ c : Dev nD, k0_cond1 c = 1#1 → k0_dev1 c = (prv c).val) c h)
theorem dev2_eq (c : Dev nD) (h : k0_cond2 c = 1#1) : (⟨k0_dev2 c, k0_dev2_lt c h⟩ : Dev nD) = nxt c :=
  Fin.ext ((by decide : ∀ c : Dev nD, k0_cond2 c = 1#1 → k0_dev2 c = (nxt c).val) c h)
theorem dev3_eq (c : Dev nD) (h : k0_cond5 c = 1#1) : (⟨k0_dev3 c, k0_dev3_lt c h⟩ : Dev nD) = nxt c :=
  Fin.ext ((by decide : ∀ c : Dev nD, k0_cond5 c = 1#1 → k0_dev3 c = (nxt c).val) c h)
theorem dev4_eq (c : Dev nD) (h : k0_cond6 c = 1#1) : (⟨k0_dev4 c, k0_dev4_lt c h⟩ : Dev nD) = prv c :=
  Fin.ext ((by decide : ∀ c : Dev nD, k0_cond6 c = 1#1 → k0_dev4 c = (prv c).val) c h)

section Walk
variable (X : Blocks F) (K : Dev nD × Fin 5 → ℕ) (c : Dev nD) (q : PosShare TreeShare)

/-- What a copy in leaves; what a copy out leaves. -/
abbrev inDel (s b lo hi : ℕ) : sProp 𝕄 := iprop(inIs X c s b lo hi ∗ xAt X c q)
abbrev outDel (s b : ℕ) : sProp 𝕄 := iprop(outAny c s ∗ resIs X c b)

/-- A block away from the array's ends. -/
theorem inner {b lo hi : ℕ} (h1 : 1 ≤ b) (h6 : b ≤ 6) : ∀ r, r < 256 → lo ≤ r + 7 → r + 9 < hi →
    c.val * 2048 + b * 256 + r ≠ 0 ∧ c.val * 2048 + b * 256 + r ≠ 8191 := by
  have hc : c.val < 4 := c.isLt
  intro r hr _ _
  constructor <;> omega

theorem run_part3 {Q : PUnit → sProp 𝕄} :
    iprop(inIs X c 0 1 0 272 ∗ outAny c 0 ∗ resAny c 1 ∗ free c out0S ∗ pend c in1S (inCr 272) (inDel X c q 1 2 0 272) ∗ owing c 0)
      ⊢ iprop((iprop(inAny c 0 ∗ pend c out0S resCr (outDel X c 0 1) ∗ inIs X c 1 2 0 272 ∗ xAt X c q ∗ free c in1S ∗ owing c 0) -∗ Q ⟨⟩)
        -∗ runs c (k0_part3 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 : PR F (PUnit)) Q) := by
  rw [k0_part3_eq_skeleton]; unfold k0_part3_skel
  simp only [Prog.lift, Prog.bind_op, Prog.bind_ret, Prog.pure_eq_ret]
  iintro ⟨Hi0, Ho0, Hr1, Ev0, Pi1, HO⟩ Hk
  iapply (loads_block X c) $$ Hi0
  iintro %u0 %v0 %w0 ⟨%hw0, Hi0⟩
  iapply (store_block X c (lo' := 0) (hi' := 256) hw0 (by decide) (by decide) (by decide) (inner c (by decide) (by decide))) $$ Ho0
  iintro Ho0
  iapply (start_out X c (b := 1) rfl) $$ [Ho0 Hr1 Ev0]
  · isplitl [Ho0]; · iexact Ho0
    isplitl [Hr1] <;> iassumption
  iintro Po0
  iapply (wait_pend0 c rfl) $$ [Pi1 HO]
  · isplitl [Pi1] <;> iassumption
  iintro ⟨⟨Hi1, Hx⟩, Iv1, HO⟩
  ihave Hi0 := (inIs_any X c) $$ Hi0
  iapply (runs_ret c)
  iapply Hk
  isplitl [Hi0]; · iexact Hi0
  isplitl [Po0]; · iexact Po0
  isplitl [Hi1]; · iexact Hi1
  isplitl [Hx]; · iexact Hx
  isplitl [Iv1]; · iexact Iv1
  iexact HO

theorem run_part4 {Q : PUnit → sProp 𝕄} :
    iprop(inAny c 0 ∗ xAt X c q ∗ free c in0S ∗ inIs X c 1 2 0 272 ∗ outAny c 1 ∗ resAny c 2 ∗ free c out1S ∗ owing c 0)
      ⊢ iprop((iprop(inAny c 1 ∗ inIs X c 0 3 0 272 ∗ xAt X c q ∗ free c in0S ∗ pend c out1S resCr (outDel X c 1 2) ∗ owing c 0) -∗ Q ⟨⟩)
        -∗ runs c (k0_part4 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 : PR F (PUnit)) Q) := by
  rw [k0_part4_eq_skeleton]; unfold k0_part4_skel
  simp only [Prog.lift, Prog.bind_op, Prog.bind_ret, Prog.pure_eq_ret]
  iintro ⟨Hi0, Hx, Iv0, Hi1, Ho1, Hr2, Ev1, HO⟩ Hk
  iapply (start_in X c (b := 3) (s := 0) (r := 0) (k := 272) rfl (by decide) (by decide) q) $$ [Hi0 Hx Iv0]
  · isplitl [Hi0]; · iexact Hi0
    isplitl [Hx] <;> iassumption
  iintro Pi0
  iapply (loads_block X c) $$ Hi1
  iintro %u1 %v1 %w1 ⟨%hw1, Hi1⟩
  iapply (store_block X c (lo' := 0) (hi' := 256) hw1 (by decide) (by decide) (by decide) (inner c (by decide) (by decide))) $$ Ho1
  iintro Ho1
  iapply (start_out X c (b := 2) rfl) $$ [Ho1 Hr2 Ev1]
  · isplitl [Ho1]; · iexact Ho1
    isplitl [Hr2] <;> iassumption
  iintro Po1
  iapply (wait_pend0 c rfl) $$ [Pi0 HO]
  · isplitl [Pi0] <;> iassumption
  iintro ⟨⟨Hi0, Hx⟩, Iv0, HO⟩
  ihave Hi1 := (inIs_any X c) $$ Hi1
  iapply (runs_ret c)
  iapply Hk
  isplitl [Hi1]; · iexact Hi1
  isplitl [Hi0]; · iexact Hi0
  isplitl [Hx]; · iexact Hx
  isplitl [Iv0]; · iexact Iv0
  isplitl [Po1]; · iexact Po1
  iexact HO

theorem run_part5 {Q : PUnit → sProp 𝕄} :
    iprop(inAny c 1 ∗ xAt X c q ∗ free c in1S ∗ inIs X c 0 3 0 272 ∗ pend c out0S resCr (outDel X c 0 1) ∗ owing c 0)
      ⊢ iprop((iprop(pend c in1S (inCr 272) (inDel X c q 1 4 0 272) ∗ resIs X c 1 ∗ free c out0S ∗ outIs X c 0 3 0 256 ∗ inAny c 0 ∗ owing c 0) -∗ Q ⟨⟩)
        -∗ runs c (k0_part5 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 : PR F (PUnit)) Q) := by
  rw [k0_part5_eq_skeleton]; unfold k0_part5_skel
  simp only [Prog.lift, Prog.bind_op, Prog.bind_ret, Prog.pure_eq_ret]
  iintro ⟨Hi1, Hx, Iv1, Hi0, Po0, HO⟩ Hk
  iapply (start_in X c (b := 4) (s := 1) (r := 0) (k := 272) rfl (by decide) (by decide) q) $$ [Hi1 Hx Iv1]
  · isplitl [Hi1]; · iexact Hi1
    isplitl [Hx] <;> iassumption
  iintro Pi1
  iapply (wait_pend0 c rfl) $$ [Po0 HO]
  · isplitl [Po0] <;> iassumption
  iintro ⟨⟨Ho0, Hr1⟩, Ev0, HO⟩
  iapply (loads_block X c) $$ Hi0
  iintro %u0 %v0 %w0 ⟨%hw0, Hi0⟩
  iapply (store_block X c (lo' := 0) (hi' := 256) hw0 (by decide) (by decide) (by decide) (inner c (by decide) (by decide))) $$ Ho0
  iintro Ho0
  ihave Hi0 := (inIs_any X c) $$ Hi0
  iapply (runs_ret c)
  iapply Hk
  isplitl [Pi1]; · iexact Pi1
  isplitl [Hr1]; · iexact Hr1
  isplitl [Ev0]; · iexact Ev0
  isplitl [Ho0]; · iexact Ho0
  isplitl [Hi0]; · iexact Hi0
  iexact HO

theorem run_part8 {Q : PUnit → sProp 𝕄} :
    iprop(inIs X c 0 5 0 272 ∗ outAny c 0 ∗ resAny c 5 ∗ free c out0S ∗ pend c in1S (inCr 272) (inDel X c q 1 6 0 272) ∗ owing c 0)
      ⊢ iprop((iprop(inAny c 0 ∗ pend c out0S resCr (outDel X c 0 5) ∗ inIs X c 1 6 0 272 ∗ xAt X c q ∗ free c in1S ∗ owing c 0) -∗ Q ⟨⟩)
        -∗ runs c (k0_part8 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 : PR F (PUnit)) Q) := by
  rw [k0_part8_eq_skeleton]; unfold k0_part8_skel
  simp only [Prog.lift, Prog.bind_op, Prog.bind_ret, Prog.pure_eq_ret]
  iintro ⟨Hi0, Ho0, Hr5, Ev0, Pi1, HO⟩ Hk
  iapply (loads_block X c) $$ Hi0
  iintro %u0 %v0 %w0 ⟨%hw0, Hi0⟩
  iapply (store_block X c (lo' := 0) (hi' := 256) hw0 (by decide) (by decide) (by decide) (inner c (by decide) (by decide))) $$ Ho0
  iintro Ho0
  iapply (start_out X c (b := 5) rfl) $$ [Ho0 Hr5 Ev0]
  · isplitl [Ho0]; · iexact Ho0
    isplitl [Hr5] <;> iassumption
  iintro Po0
  iapply (wait_pend0 c rfl) $$ [Pi1 HO]
  · isplitl [Pi1] <;> iassumption
  iintro ⟨⟨Hi1, Hx⟩, Iv1, HO⟩
  ihave Hi0 := (inIs_any X c) $$ Hi0
  iapply (runs_ret c)
  iapply Hk
  isplitl [Hi0]; · iexact Hi0
  isplitl [Po0]; · iexact Po0
  isplitl [Hi1]; · iexact Hi1
  isplitl [Hx]; · iexact Hx
  isplitl [Iv1]; · iexact Iv1
  iexact HO

theorem run_part9 {Q : PUnit → sProp 𝕄} :
    iprop(inAny c 0 ∗ xAt X c q ∗ free c in0S ∗ pend c out1S resCr (outDel X c 1 4) ∗ inIs X c 1 6 0 272 ∗ resAny c 6 ∗ owing c 0)
      ⊢ iprop((iprop(pend c in0S (inCr 264) (inDel X c q 0 0 8 272) ∗ resIs X c 4 ∗ pend c out1S resCr (outDel X c 1 6) ∗ inAny c 1 ∗ owing c 0) -∗ Q ⟨⟩)
        -∗ runs c (k0_part9 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 : PR F (PUnit)) Q) := by
  rw [k0_part9_eq_skeleton]; unfold k0_part9_skel
  simp only [Prog.lift, Prog.bind_op, Prog.bind_ret, Prog.pure_eq_ret]
  iintro ⟨Hi0, Hx, Iv0, Po1, Hi1, Hr6, HO⟩ Hk
  iapply (start_in X c (b := 0) (s := 0) (r := 8) (k := 264) rfl (by decide) (by decide) q) $$ [Hi0 Hx Iv0]
  · isplitl [Hi0]; · iexact Hi0
    isplitl [Hx] <;> iassumption
  iintro Pi0
  iapply (wait_pend0 c rfl) $$ [Po1 HO]
  · isplitl [Po1] <;> iassumption
  iintro ⟨⟨Ho1, Hr4⟩, Ev1, HO⟩
  iapply (loads_block X c) $$ Hi1
  iintro %u1 %v1 %w1 ⟨%hw1, Hi1⟩
  iapply (store_block X c (lo' := 0) (hi' := 256) hw1 (by decide) (by decide) (by decide) (inner c (by decide) (by decide))) $$ Ho1
  iintro Ho1
  iapply (start_out X c (b := 6) rfl) $$ [Ho1 Hr6 Ev1]
  · isplitl [Ho1]; · iexact Ho1
    isplitl [Hr6] <;> iassumption
  iintro Po1
  ihave Hi1 := (inIs_any X c) $$ Hi1
  iapply (runs_ret c)
  iapply Hk
  isplitl [Pi0]; · iexact Pi0
  isplitl [Hr4]; · iexact Hr4
  isplitl [Po1]; · iexact Po1
  isplitl [Hi1]; · iexact Hi1
  iexact HO

theorem run_part6 {Q : (Σ' (v156 : FVec F S256x1024 .bf16), FVec F S256x1024 .bf16) → sProp 𝕄} :
    iprop(outIs X c 0 3 0 256 ∗ resAny c 3 ∗ free c out0S ∗ pend c in1S (inCr 272) (inDel X c q 1 4 0 272) ∗ inAny c 0 ∗ free c in0S
        ∗ pend c out1S resCr (outDel X c 1 2) ∗ owing c 0)
      ⊢ iprop((∀ v156 v161, iprop(⌜BlockVal X c 1 4 0 272 inb_S2x272x1024_S1x256x1024_1_7_0 inb_S2x272x1024_S1x256x1024_1_8_0 inb_S2x272x1024_S1x256x1024_1_9_0 (k0_pay8 v156 v161)⌝ ∗ pend c out0S resCr (outDel X c 0 3) ∗ inAny c 1 ∗ free c in1S
            ∗ pend c in0S (inCr 272) (inDel X c q 0 5 0 272) ∗ outAny c 1 ∗ resIs X c 2 ∗ free c out1S ∗ owing c 0) -∗ Q ⟨v156, v161⟩)
        -∗ runs c (k0_part6 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 : PR F (Σ' (v156 : FVec F S256x1024 .bf16), FVec F S256x1024 .bf16)) Q) := by
  rw [k0_part6_eq_skeleton]; unfold k0_part6_skel
  simp only [Prog.lift, Prog.bind_op, Prog.bind_ret, Prog.pure_eq_ret]
  iintro ⟨Ho0, Hr3, Ev0, Pi1, Hi0, Iv0, Po1, HO⟩ Hk
  iapply (start_out X c (b := 3) rfl) $$ [Ho0 Hr3 Ev0]
  · isplitl [Ho0]; · iexact Ho0
    isplitl [Hr3] <;> iassumption
  iintro Po0
  iapply (wait_pend0 c rfl) $$ [Pi1 HO]
  · isplitl [Pi1] <;> iassumption
  iintro ⟨⟨Hi1, Hx⟩, Iv1, HO⟩
  iapply (start_in X c (b := 5) (s := 0) (r := 0) (k := 272) rfl (by decide) (by decide) q) $$ [Hi0 Hx Iv0]
  · isplitl [Hi0]; · iexact Hi0
    isplitl [Hx] <;> iassumption
  iintro Pi0
  iapply (wait_pend0 c rfl) $$ [Po1 HO]
  · isplitl [Po1] <;> iassumption
  iintro ⟨⟨Ho1, Hr2⟩, Ev1, HO⟩
  iapply (loads_block X c) $$ Hi1
  iintro %u %v %w ⟨%hw, Hi1⟩
  ihave Hi1 := (inIs_any X c) $$ Hi1
  iapply (runs_ret c)
  iapply Hk
  isplitr
  · ipureintro; exact hw
  isplitl [Po0]; · iexact Po0
  isplitl [Hi1]; · iexact Hi1
  isplitl [Iv1]; · iexact Iv1
  isplitl [Pi0]; · iexact Pi0
  isplitl [Ho1]; · iexact Ho1
  isplitl [Hr2]; · iexact Hr2
  isplitl [Ev1]; · iexact Ev1
  iexact HO

theorem run_part7 {v156 v161 : FVec F S256x1024 .bf16} (hw : BlockVal X c 1 4 0 272 inb_S2x272x1024_S1x256x1024_1_7_0 inb_S2x272x1024_S1x256x1024_1_8_0 inb_S2x272x1024_S1x256x1024_1_9_0 (k0_pay8 v156 v161)) {Q : PUnit → sProp 𝕄} :
    iprop(outAny c 1 ∗ resAny c 4 ∗ free c out1S ∗ pend c in0S (inCr 272) (inDel X c q 0 5 0 272) ∗ inAny c 1 ∗ free c in1S
        ∗ pend c out0S resCr (outDel X c 0 3) ∗ owing c 0)
      ⊢ iprop((iprop(pend c out1S resCr (outDel X c 1 4) ∗ inIs X c 0 5 0 272 ∗ free c in0S ∗ pend c in1S (inCr 272) (inDel X c q 1 6 0 272)
            ∗ outAny c 0 ∗ resIs X c 3 ∗ free c out0S ∗ owing c 0) -∗ Q ⟨⟩)
        -∗ runs c (k0_part7 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 v156 v161 : PR F PUnit) Q) := by
  rw [k0_part7_eq_skeleton]; unfold k0_part7_skel
  simp only [Prog.lift, Prog.bind_op, Prog.bind_ret, Prog.pure_eq_ret]
  iintro ⟨Ho1, Hr4, Ev1, Pi0, Hi1, Iv1, Po0, HO⟩ Hk
  iapply (store_block X c (lo' := 0) (hi' := 256) hw (by decide) (by decide) (by decide) (inner c (by decide) (by decide))) $$ Ho1
  iintro Ho1
  iapply (start_out X c (b := 4) rfl) $$ [Ho1 Hr4 Ev1]
  · isplitl [Ho1]; · iexact Ho1
    isplitl [Hr4] <;> iassumption
  iintro Po1
  iapply (wait_pend0 c rfl) $$ [Pi0 HO]
  · isplitl [Pi0] <;> iassumption
  iintro ⟨⟨Hi0, Hx⟩, Iv0, HO⟩
  iapply (start_in X c (b := 6) (s := 1) (r := 0) (k := 272) rfl (by decide) (by decide) q) $$ [Hi1 Hx Iv1]
  · isplitl [Hi1]; · iexact Hi1
    isplitl [Hx] <;> iassumption
  iintro Pi1
  iapply (wait_pend0 c rfl) $$ [Po0 HO]
  · isplitl [Po0] <;> iassumption
  iintro ⟨⟨Ho0, Hr3⟩, Ev0, HO⟩
  iapply (runs_ret c)
  iapply Hk
  isplitl [Po1]; · iexact Po1
  isplitl [Hi0]; · iexact Hi0
  isplitl [Iv0]; · iexact Iv0
  isplitl [Pi1]; · iexact Pi1
  isplitl [Ho0]; · iexact Ho0
  isplitl [Hr3]; · iexact Hr3
  isplitl [Ev0]; · iexact Ev0
  iexact HO

/-- The two windows of the staged rows, and the way back to the whole share. -/
abbrev xBack (p : PosShare TreeShare) : sProp 𝕄 := iprop((xEight X c p (stRow 0) ∗ xEight X c p (stRow 1)) -∗ xAt X c p)

theorem run_part1 (p : PosShare TreeShare) {Q : (Σ' (d0 : Dev nD) (v2 : BitVec 32) (v3 : BitVec 1) (v4 : BitVec 1) (v20 : Sems sig S_), BitVec 32) → sProp 𝕄} :
    iprop(ctx X K ∗ owing c (Orow c + obR c + obL c) ∗ free c stageS ∗ stageAny c 0 ∗ stageAny c 1 ∗ xAt X c p ∗ inAny c 0 ∗ xAt X c q ∗ free c in0S
        ∗ onlyIf (HasL c) (dutyTok ER (barCell (prv c)) 0 true) ∗ haloAny c 0 ∗ onlyIf (HasR c) (dutyTok ER (barCell (nxt c)) 0 false) ∗ haloAny c 1
        ∗ onlyIf (HasL c) (cred (tallyAt (barCell c) () 1)) ∗ atPos ER (barCell c) 0 ∅ 0)
      ⊢ iprop((iprop(staging X c p 2 0 ∗ xBack X c p ∗ pend c in0S (inCr 272) (inDel X c q 0 1 0 272) ∗ owing c (Orow c)
            ∗ onlyIf (¬ HasL c) (haloAny c 0) ∗ onlyIf (¬ HasR c) (haloAny c 1) ∗ barMid X c)
          -∗ Q ⟨c, wPos c, wL c, wR c, SemArray.scalar (sig.barrier 0 rfl), Scalar.extui (wR c)⟩)
        -∗ runs c (k0_part1 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 : PR F (Σ' (d0 : Dev nD) (v2 : BitVec 32) (v3 : BitVec 1) (v4 : BitVec 1) (v20 : Sems sig S_), BitVec 32)) Q) := by
  rw [k0_part1_eq_skeleton]; unfold k0_part1_skel
  simp only [semSignalWord, semWaitWord, storeSubelements, Prog.lift, Prog.bind_op, Prog.bind_ret, Prog.pure_eq_ret, wp_deviceId]
  iintro ⟨#Hctx, HO, Hsv, Hs0, Hs1, Hxp, Hi0, Hx, Iv0, HtL, Hh0, HtR, Hh1, Hc, Ha⟩ Hk
  imod (stage_alloc X c p) $$ Hsv with HB
  ihave Hxp := (x_eights X c p) $$ Hxp
  icases Hxp with ⟨⟨Hx0, Hx1⟩, Hback⟩
  iapply (start_stage X c (s := 0) (by decide) rfl p) $$ [Hs0 Hx0 HB]
  · isplitl [Hs0]; · iexact Hs0
    isplitl [Hx0] <;> iassumption
  iintro HB
  iapply (start_stage X c (s := 1) (by decide) rfl p) $$ [Hs1 Hx1 HB]
  · isplitl [Hs1]; · iexact Hs1
    isplitl [Hx1] <;> iassumption
  iintro HB
  iapply (start_in X c (b := 1) (s := 0) (r := 0) (k := 272) rfl (by decide) (by decide) q) $$ [Hi0 Hx Iv0]
  · isplitl [Hi0]; · iexact Hi0
    isplitl [Hx] <;> iassumption
  iintro Pi0
  iapply (signal_left X K c (cond1_iff c) (dev1_eq c) rfl) $$ [HO HtL Hh0]
  · isplitr; · iexact Hctx
    isplitl [HO]; · iexact HO
    isplitl [HtL] <;> iassumption
  iintro ⟨HO, Hh0⟩
  iapply (signal_right X K c (cond2_iff c) (dev2_eq c) rfl) $$ [HO HtR Hh1]
  · isplitr; · iexact Hctx
    isplitl [HO]; · iexact HO
    isplitl [HtR] <;> iassumption
  iintro ⟨HO, Hh1⟩
  iapply (wait_left X K c (left_iff c) rfl) $$ [HO Hc Ha]
  · isplitr; · iexact Hctx
    isplitl [HO]; · iexact HO
    isplitl [Hc] <;> iassumption
  iintro ⟨HO, Hm⟩
  iapply (runs_ret c)
  iapply Hk
  isplitl [HB]; · iexact HB
  isplitl [Hback]; · iexact Hback
  isplitl [Pi0]; · iexact Pi0
  isplitl [HO]; · iexact HO
  isplitl [Hh0]; · iexact Hh0
  isplitl [Hh1]; · iexact Hh1
  iexact Hm

theorem run_part2 (p : PosShare TreeShare) {Q : PUnit → sProp 𝕄} :
    iprop(ctx X K ∗ owing c (Orow c) ∗ onlyIf (HasR c) (cred (tallyAt (barCell c) () 1)) ∗ barMid X c ∗ staging X c p 2 0 ∗ xBack X c p
        ∗ edgeAny c 1 ∗ edgeAny c 0
        ∗ onlyIf (HasR c) (dutyTok ER (dmaCell c send0S) 0 false) ∗ onlyIf (HasR c) (dutyTok ER (dmaCell (nxt c) recv0S) 0 false)
        ∗ onlyIf (HasL c) (dutyTok ER (dmaCell c send1S) 0 false) ∗ onlyIf (HasL c) (dutyTok ER (dmaCell (prv c) recv1S) 0 false)
        ∗ pend c in0S (inCr 272) (inDel X c q 0 1 0 272) ∗ inAny c 1 ∗ free c in1S)
      ⊢ iprop((iprop(owing c 0 ∗ Done X (barCell c) ∗ xAt X c p ∗ free c stageS ∗ stageAny c 0 ∗ stageAny c 1
            ∗ onlyIf (¬ HasR c) (edgeAny c 1) ∗ onlyIf (HasR c) (cred (tallyAt (dmaCell c send0S) () N))
            ∗ onlyIf (¬ HasL c) (edgeAny c 0) ∗ onlyIf (HasL c) (cred (tallyAt (dmaCell c send1S) () N))
            ∗ inIs X c 0 1 0 272 ∗ free c in0S ∗ pend c in1S (inCr 272) (inDel X c q 1 2 0 272)) -∗ Q ⟨⟩)
        -∗ runs c (k0_part2 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9
            c (wPos c) (wL c) (wR c) (SemArray.scalar (sig.barrier 0 rfl)) (Scalar.extui (wR c)) : PR F PUnit) Q) := by
  rw [k0_part2_eq_skeleton]; unfold k0_part2_skel
  simp only [semSignalWord, semWaitWord, storeSubelements, Prog.lift, Prog.bind_op, Prog.bind_ret, Prog.pure_eq_ret, wp_deviceId]
  iintro ⟨#Hctx, HO, Hc, Hm, HB, Hback, He1, He0, HtS0, HtV0, HtS1, HtV1, Pi0, Hi1, Iv1⟩ Hk
  iapply (wait_right X K c (right_iff c) rfl) $$ [HO Hc Hm]
  · isplitr; · iexact Hctx
    isplitl [HO]; · iexact HO
    isplitl [Hc] <;> iassumption
  unfold barGot
  iintro ⟨HO, HD, HhR, HhL⟩
  iapply (wait_stage1 X K c p rfl) $$ [HB HO]
  · isplitr; · iexact Hctx
    isplitl [HB] <;> iassumption
  iintro ⟨HB, HO⟩
  iapply (wait_stage2 X K c p rfl) $$ [HB HO]
  · isplitr; · iexact Hctx
    isplitl [HB] <;> iassumption
  iintro ⟨Hxx, Hs0, Hs1, Hsv, HO⟩
  ihave Hxp := Hback $$ Hxx
  iapply (send_right X K c (cond5_iff c) (dev3_eq c)) $$ [HO Hs1 He1 HhR HtS0 HtV0]
  · isplitr; · iexact Hctx
    isplitl [HO]; · iexact HO
    isplitl [Hs1]; · iexact Hs1
    isplitl [He1]; · iexact He1
    isplitl [HhR]; · iexact HhR
    isplitl [HtS0] <;> iassumption
  iintro ⟨HO, Hs1, He1, HcS0⟩
  iapply (send_left X K c (cond6_iff c) (dev4_eq c)) $$ [HO Hs0 He0 HhL HtS1 HtV1]
  · isplitr; · iexact Hctx
    isplitl [HO]; · iexact HO
    isplitl [Hs0]; · iexact Hs0
    isplitl [He0]; · iexact He0
    isplitl [HhL]; · iexact HhL
    isplitl [HtS1] <;> iassumption
  iintro ⟨HO, Hs0, He0, HcS1⟩
  iapply (wait_pend0 c rfl) $$ [Pi0 HO]
  · isplitl [Pi0] <;> iassumption
  iintro ⟨⟨Hi0, Hx⟩, Iv0, HO⟩
  iapply (start_in X c (b := 2) (s := 1) (r := 0) (k := 272) rfl (by decide) (by decide) q) $$ [Hi1 Hx Iv1]
  · isplitl [Hi1]; · iexact Hi1
    isplitl [Hx] <;> iassumption
  iintro Pi1
  iapply (runs_ret c)
  iapply Hk
  isplitl [HO]; · iexact HO
  isplitl [HD]; · iexact HD
  isplitl [Hxp]; · iexact Hxp
  isplitl [Hsv]; · iexact Hsv
  isplitl [Hs0]; · iexact Hs0
  isplitl [Hs1]; · iexact Hs1
  isplitl [He1]; · iexact He1
  isplitl [HcS0]; · iexact HcS0
  isplitl [He0]; · iexact He0
  isplitl [HcS1]; · iexact HcS1
  isplitl [Hi0]; · iexact Hi0
  isplitl [Iv0]; · iexact Iv0
  iexact Pi1

/-- The first row a device's first window is good from, and the row its last window is good to. -/
def loIn (c : Dev nD) : ℕ := if HasL c then 7 else 8
def hiIn (c : Dev nD) : ℕ := if HasR c then 265 else 264
theorem loIn_pos {c : Dev nD} (h : HasL c) : loIn c = 7 := if_pos h
theorem loIn_neg {c : Dev nD} (h : ¬ HasL c) : loIn c = 8 := if_neg h
theorem hiIn_pos {c : Dev nD} (h : HasR c) : hiIn c = 265 := if_pos h
theorem hiIn_neg {c : Dev nD} (h : ¬ HasR c) : hiIn c = 264 := if_neg h

/-- What the first window's first two loads read. -/
def TwoLoads (r : (Σ' (v266 : FVec F S256x1024 .bf16), Vec F S1x256x1024 .bf16)) : sProp 𝕄 :=
  iprop(∃ f, ⌜InHas X c 0 0 (loIn c) 272 f ∧ r = ⟨k0_pay12 (inM.view.readAt (Elt F) (inRect 0 7 256 inb_S2x272x1024_S1x256x1024_0_7_0).toLoadRect f),
    inM.view.readAt (Elt F) (inRect 0 8 256 inb_S2x272x1024_S1x256x1024_0_8_0).toLoadRect f⟩⌝ ∗ inPts c 0 f)

theorem run_part10 {Q : (Σ' (v266 : FVec F S256x1024 .bf16), Vec F S1x256x1024 .bf16) → sProp 𝕄} :
    iprop(ctx X K ∗ pend c in0S (inCr 264) (inDel X c q 0 0 8 272) ∗ inAny c 1 ∗ free c in1S ∗ pend c out0S resCr (outDel X c 0 5) ∗ owing c 0
        ∗ onlyIf (HasL c) (cred (tallyAt (dmaCell c recv0S) () N)) ∗ atPos ER (dmaCell c recv0S) 0 ∅ 0 ∗ onlyIf (¬ HasL c) (haloAny c 0))
      ⊢ iprop((∀ r, iprop(TwoLoads X c r ∗ free c in0S ∗ pend c in1S (inCr 264) (inDel X c q 1 7 0 264) ∗ outAny c 0 ∗ resIs X c 5 ∗ free c out0S ∗ owing c 0
            ∗ Done X (dmaCell c recv0S) ∗ haloAny c 0) -∗ Q r)
        -∗ runs c (k0_part10 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 (wPos c) (wL c) : PR F (Σ' (v266 : FVec F S256x1024 .bf16), Vec F S1x256x1024 .bf16)) Q) := by
  rw [k0_part10_eq_skeleton]; unfold k0_part10_skel
  simp only [semSignalWord, semWaitWord, storeSubelements, Prog.lift, Prog.bind_op, Prog.bind_ret, Prog.pure_eq_ret, wp_deviceId]
  iintro ⟨#Hctx, Pi0, Hi1, Iv1, Po0, HO, Hc, Ha, Hh⟩ Hk
  iapply (wait_pend0 c rfl) $$ [Pi0 HO]
  · isplitl [Pi0] <;> iassumption
  iintro ⟨⟨Hi0, Hx⟩, Iv0, HO⟩
  iapply (start_in X c (b := 7) (s := 1) (r := 0) (k := 264) rfl (by decide) (by decide) q) $$ [Hi1 Hx Iv1]
  · isplitl [Hi1]; · iexact Hi1
    isplitl [Hx] <;> iassumption
  iintro Pi1
  iapply (wait_pend0 c rfl) $$ [Po0 HO]
  · isplitl [Po0] <;> iassumption
  iintro ⟨⟨Ho0, Hr5⟩, Ev0, HO⟩
  iapply (wait_pay_if X K c (left_iff c) 3 rfl (dutiesOf_recv0 c) (D := haloGot X c (HasL c) (c.val * 2048 - 1) 0) (E := haloAny c 0)
    (fun h => by
      rw [payOf_recv0]; unfold haloIs haloGot
      iintro ⟨%f, %hf, H⟩
      iexists f
      isplitr
      · ipureintro; exact fun _ => hf
      · iexact H)
    (fun h => by
      unfold haloAny haloGot
      iintro ⟨%f, H⟩
      iexists f
      isplitr
      · ipureintro; exact fun hh => absurd hh h
      · iexact H) rfl) $$ [HO Hc Ha Hh]
  · isplitr; · iexact Hctx
    isplitl [HO]; · iexact HO
    isplitl [Hc]; · iexact Hc
    isplitl [Ha] <;> iassumption
  iintro ⟨HO, HD, Hh⟩
  iapply (patch_in X c (b := 0) (s := 0) (r := 6) (p := 1) (live := HasL c) (g := c.val * 2048 - 1) (lo := 8) (hi := 272) (lo' := loIn c) (hi' := 272) (by decide) (by decide) (by decide)
    (fun h _ => by
      have hl : HasL c := by
        by_contra hn
        rw [loIn_neg hn] at h
        omega
      exact ⟨hl, by omega⟩)
    (fun i h _ => by
      have h7 : 7 ≤ i := by
        refine Nat.le_trans ?_ h
        unfold loIn
        split <;> omega
      omega)) $$ [Hh Hi0]
  · isplitl [Hh] <;> iassumption
  iintro ⟨Hh, Hi0⟩
  unfold inIs
  icases Hi0 with ⟨%f, %hf, Hi0⟩
  iapply (load_in c (by decide)) $$ Hi0
  iintro Hi0
  iapply (load_in c (by decide)) $$ Hi0
  iintro Hi0
  iapply (runs_ret c)
  iapply Hk
  isplitl [Hi0]
  · unfold TwoLoads
    iexists f
    isplitr
    · ipureintro; exact ⟨hf, rfl⟩
    · iexact Hi0
  isplitl [Iv0]; · iexact Iv0
  isplitl [Pi1]; · iexact Pi1
  isplitl [Ho0]; · iexact Ho0
  isplitl [Hr5]; · iexact Hr5
  isplitl [Ev0]; · iexact Ev0
  isplitl [HO]; · iexact HO
  isplitl [HD]; · iexact HD
  iexact Hh

theorem run_part11 {r : (Σ' (v266 : FVec F S256x1024 .bf16), Vec F S1x256x1024 .bf16)} {Q : PUnit → sProp 𝕄} :
    iprop(TwoLoads X c r ∗ outAny c 0 ∗ resAny c 0 ∗ free c out0S ∗ pend c in1S (inCr 264) (inDel X c q 1 7 0 264) ∗ owing c 0)
      ⊢ iprop((iprop(inAny c 0 ∗ pend c out0S resCr (outDel X c 0 0) ∗ inIs X c 1 7 0 264 ∗ xAt X c q ∗ free c in1S ∗ owing c 0) -∗ Q ⟨⟩)
        -∗ runs c (k0_part11 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 (wPos c) r.1 r.2 : PR F PUnit) Q) := by
  have hc : c.val < 4 := c.isLt
  rw [k0_part11_eq_skeleton]; unfold k0_part11_skel
  simp only [semSignalWord, semWaitWord, storeSubelements, Prog.lift, Prog.bind_op, Prog.bind_ret, Prog.pure_eq_ret, wp_deviceId]
  unfold TwoLoads
  iintro ⟨⟨%f, %hf, Hi0⟩, Ho0, Hr0, Ev0, Pi1, HO⟩ Hk
  obtain ⟨hf, hr⟩ := hf
  subst hr
  iapply (load_in c (by decide)) $$ Hi0
  iintro Hi0
  iapply (store_block X c (b := 0) (lo' := loIn c - 7) (hi' := 256)
    (show BlockVal X c 0 0 (loIn c) 272 inb_S2x272x1024_S1x256x1024_0_7_0 inb_S2x272x1024_S1x256x1024_0_8_0 inb_S2x272x1024_S1x256x1024_0_9_0 _ from ⟨f, hf, rfl⟩)
    (by unfold loIn; split <;> omega) (by omega) (by decide)
    (fun r h0 h1 _ => by
      by_cases hl : HasL c
      · have hl' : 0 < c.val := hl
        constructor <;> omega
      · have hl' : ¬ 0 < c.val := hl
        rw [loIn_neg hl] at h1
        constructor <;> omega)) $$ Ho0
  iintro Ho0
  iapply (patch_out X c (first_iff c) (b := 0) (s := 0) (r := 0) (p := 0) (li := loIn c) (hi := 272) (lo := loIn c - 7) (hi' := 256) (by decide) (by decide) (by decide) rfl
    (fun _ => ⟨by unfold loIn; split <;> omega, by decide⟩) (fun h => by left; omega)
    (fun i h => by
      by_cases hl : HasL c
      · right; rw [loIn_pos hl]; omega
      · have hl' : ¬ 0 < c.val := hl
        rw [loIn_neg hl]; omega)) $$ [Hi0 Ho0]
  · isplitl [Hi0]
    · unfold inIs
      iexists f
      isplitr
      · ipureintro; exact hf
      · iexact Hi0
    · iexact Ho0
  iintro ⟨Hi0, Ho0⟩
  iapply (start_out X c (b := 0) rfl) $$ [Ho0 Hr0 Ev0]
  · isplitl [Ho0]; · iexact Ho0
    isplitl [Hr0] <;> iassumption
  iintro Po0
  iapply (wait_pend0 c rfl) $$ [Pi1 HO]
  · isplitl [Pi1] <;> iassumption
  iintro ⟨⟨Hi1, Hx⟩, Iv1, HO⟩
  iapply (runs_ret c)
  iapply Hk
  isplitl [Hi0]; · iexact Hi0
  isplitl [Po0]; · iexact Po0
  isplitl [Hi1]; · iexact Hi1
  isplitl [Hx]; · iexact Hx
  isplitl [Iv1]; · iexact Iv1
  iexact HO

theorem run_part12 {Q : PUnit → sProp 𝕄} :
    iprop(ctx X K ∗ pend c out1S resCr (outDel X c 1 6) ∗ owing c 0 ∗ inIs X c 1 7 0 264
        ∗ onlyIf (HasR c) (cred (tallyAt (dmaCell c recv1S) () N)) ∗ atPos ER (dmaCell c recv1S) 0 ∅ 0 ∗ onlyIf (¬ HasR c) (haloAny c 1))
      ⊢ iprop((iprop(resIs X c 6 ∗ free c out1S ∗ owing c 0 ∗ Done X (dmaCell c recv1S) ∗ haloAny c 1 ∗ inAny c 1 ∗ outIs X c 1 7 0 256) -∗ Q ⟨⟩)
        -∗ runs c (k0_part12 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 (wPos c) (wR c) : PR F PUnit) Q) := by
  have hc : c.val < 4 := c.isLt
  rw [k0_part12_eq_skeleton]; unfold k0_part12_skel
  simp only [semSignalWord, semWaitWord, storeSubelements, Prog.lift, Prog.bind_op, Prog.bind_ret, Prog.pure_eq_ret, wp_deviceId]
  iintro ⟨#Hctx, Po1, HO, Hi1, Hc, Ha, Hh⟩ Hk
  iapply (wait_pend0 c rfl) $$ [Po1 HO]
  · isplitl [Po1] <;> iassumption
  iintro ⟨⟨Ho1, Hr6⟩, Ev1, HO⟩
  iapply (wait_pay_if X K c (right_iff c) 4 rfl (dutiesOf_recv1 c) (dstw := slotOf haloM 1 0 1 inb_S2x1x1024_S1x1x1024_1_0_0 squeezes_S1x1x1024_S1x1024) (D := haloGot X c (HasR c) (c.val * 2048 + 2048) 1) (E := haloAny c 1)
    (fun h => by
      rw [payOf_recv1]; unfold haloIs haloGot
      iintro ⟨%f, %hf, H⟩
      iexists f
      isplitr
      · ipureintro; exact fun _ => hf
      · iexact H)
    (fun h => by
      unfold haloAny haloGot
      iintro ⟨%f, H⟩
      iexists f
      isplitr
      · ipureintro; exact fun hh => absurd hh h
      · iexact H) rfl) $$ [HO Hc Ha Hh]
  · isplitr; · iexact Hctx
    isplitl [HO]; · iexact HO
    isplitl [Hc]; · iexact Hc
    isplitl [Ha] <;> iassumption
  iintro ⟨HO, HD, Hh⟩
  iapply (patch_in X c (b := 7) (s := 1) (r := 264) (p := 0) (live := HasR c) (g := c.val * 2048 + 2048) (lo := 0) (hi := 264) (lo' := 0) (hi' := hiIn c) (by decide) (by decide) (by decide)
    (fun _ h => by
      have hr : HasR c := by
        by_contra hn
        rw [hiIn_neg hn] at h
        omega
      exact ⟨hr, by omega⟩)
    (fun i _ h => by
      have h7 : i < 265 := by
        refine Nat.lt_of_lt_of_le h ?_
        unfold hiIn
        split <;> omega
      omega)) $$ [Hh Hi1]
  · isplitl [Hh] <;> iassumption
  iintro ⟨Hh, Hi1⟩
  iapply (loads_block X c) $$ Hi1
  iintro %u %v %w ⟨%hw, Hi1⟩
  iapply (store_block X c (b := 7) (lo' := 0) (hi' := hiIn c - 9) hw (by decide) (by decide)
    (by unfold hiIn; split <;> omega)
    (fun r h0 _ h1 => by
      by_cases hl : HasR c
      · have hl' : c.val < 3 := hl
        constructor <;> omega
      · rw [hiIn_neg hl] at h1
        constructor <;> omega)) $$ Ho1
  iintro Ho1
  iapply (patch_out X c (last_iff c) (b := 7) (s := 1) (r := 254) (p := 1) (li := 0) (hi := hiIn c) (lo := 0) (hi' := hiIn c - 9) (by decide) (by decide) (by decide) rfl
    (fun _ => ⟨by decide, by unfold hiIn; split <;> omega⟩) (fun h => by right; omega)
    (fun i h => by
      by_cases hl : HasR c
      · right; rw [hiIn_pos hl]; omega
      · have hl' : ¬ c.val < 3 := hl
        rw [hiIn_neg hl]; omega)) $$ [Hi1 Ho1]
  · isplitl [Hi1] <;> iassumption
  iintro ⟨Hi1, Ho1⟩
  iapply (runs_ret c)
  iapply Hk
  isplitl [Hr6]; · iexact Hr6
  isplitl [Ev1]; · iexact Ev1
  isplitl [HO]; · iexact HO
  isplitl [HD]; · iexact HD
  isplitl [Hh]; · iexact Hh
  isplitl [Hi1]; · iexact Hi1
  iexact Ho1

end Walk

end Cert.KernelIdealProof
-- ==== Proof.KernelIdeal.Body.lean ====
/- The whole kernel body on one device: its twelve parts and its end, one after another. -/
module

public import proofs.«01_k».proof.Proof.KernelIdeal.Walk

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

section Body
variable (X : Blocks F) (K : Dev nD × Fin 5 → ℕ) (c : Dev nD) (p q : PosShare TreeShare)

/-- What a device holds when its body begins. -/
def bodyIn : sProp 𝕄 :=
  iprop(owing c (O₀ c) ∗ free c in0S ∗ free c in1S ∗ free c out0S
      ∗ free c out1S ∗ free c stageS ∗ inAny c 0 ∗ inAny c 1
      ∗ outAny c 0 ∗ outAny c 1 ∗ haloAny c 0 ∗ haloAny c 1
      ∗ stageAny c 0 ∗ stageAny c 1 ∗ edgeAny c 0 ∗ edgeAny c 1
      ∗ xAt X c p ∗ xAt X c q ∗ resAny c 0 ∗ resAny c 1
      ∗ resAny c 2 ∗ resAny c 3 ∗ resAny c 4 ∗ resAny c 5
      ∗ resAny c 6 ∗ resAny c 7 ∗ onlyIf (HasL c) (dutyTok ER (barCell (prv c)) 0 true) ∗ onlyIf (HasR c) (dutyTok ER (barCell (nxt c)) 0 false)
      ∗ onlyIf (HasR c) (dutyTok ER (dmaCell c send0S) 0 false) ∗ onlyIf (HasR c) (dutyTok ER (dmaCell (nxt c) recv0S) 0 false) ∗ onlyIf (HasL c) (dutyTok ER (dmaCell c send1S) 0 false) ∗ onlyIf (HasL c) (dutyTok ER (dmaCell (prv c) recv1S) 0 false)
      ∗ onlyIf (HasL c) (cred (tallyAt (barCell c) () 1)) ∗ onlyIf (HasR c) (cred (tallyAt (barCell c) () 1)) ∗ onlyIf (HasL c) (cred (tallyAt (dmaCell c recv0S) () N)) ∗ onlyIf (HasR c) (cred (tallyAt (dmaCell c recv1S) () N))
      ∗ atPos ER (barCell c) 0 ∅ 0 ∗ atPos ER (dmaCell c send0S) 0 ∅ 0 ∗ atPos ER (dmaCell c send1S) 0 ∅ 0 ∗ atPos ER (dmaCell c recv0S) 0 ∅ 0
      ∗ atPos ER (dmaCell c recv1S) 0 ∅ 0)

/-- What it holds when its body ends. -/
def bodyOut : sProp 𝕄 :=
  iprop(owing c 0 ∗ free c in0S ∗ free c in1S ∗ free c out0S
      ∗ free c out1S ∗ free c stageS ∗ inAny c 0 ∗ inAny c 1
      ∗ outAny c 0 ∗ outAny c 1 ∗ haloAny c 0 ∗ haloAny c 1
      ∗ stageAny c 0 ∗ stageAny c 1 ∗ edgeAny c 0 ∗ edgeAny c 1
      ∗ xAt X c p ∗ xAt X c q ∗ resIs X c 0 ∗ resIs X c 1
      ∗ resIs X c 2 ∗ resIs X c 3 ∗ resIs X c 4 ∗ resIs X c 5
      ∗ resIs X c 6 ∗ resIs X c 7 ∗ Done X (barCell c) ∗ Done X (dmaCell c send0S)
      ∗ Done X (dmaCell c send1S) ∗ Done X (dmaCell c recv0S) ∗ Done X (dmaCell c recv1S))

theorem run_body {Q : PUnit → sProp 𝕄} :
    iprop(ctx X K ∗ bodyIn X c p q)
      ⊢ iprop((bodyOut X c p q -∗ |={Set.univ}=> Q ⟨⟩) -∗ runs c (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 : PR F PUnit) Q) := by
  rw [cc0_body_eq_skeleton]; unfold cc0_body_skel bodyIn O₀
  iintro ⟨#Hctx, HO, Iv0, Iv1, Ev0, Ev1, Sv, Hi0, Hi1, Ho0, Ho1, Hh0, Hh1, Hs0, Hs1, He0, He1, Hxp, Hx, Hr0, Hr1, Hr2, Hr3, Hr4, Hr5, Hr6, Hr7, TbL, TbR, TsR, TvR, TsL, TvL, CbL, CbR, CvL, CvR, Ab, As0, As1, Av0, Av1⟩ Hk
  iapply (runs_seq c)
  iapply (run_part1 X K c q p) $$ [HO Sv Hs0 Hs1 Hxp Hi0 Hx Iv0 TbL Hh0 TbR Hh1 CbL Ab]
  · isplitr; · iexact Hctx
    isplitl [HO]; · iexact HO
    isplitl [Sv]; · iexact Sv
    isplitl [Hs0]; · iexact Hs0
    isplitl [Hs1]; · iexact Hs1
    isplitl [Hxp]; · iexact Hxp
    isplitl [Hi0]; · iexact Hi0
    isplitl [Hx]; · iexact Hx
    isplitl [Iv0]; · iexact Iv0
    isplitl [TbL]; · iexact TbL
    isplitl [Hh0]; · iexact Hh0
    isplitl [TbR]; · iexact TbR
    isplitl [Hh1]; · iexact Hh1
    isplitl [CbL] <;> iassumption
  iintro ⟨HB, Hback, Hi0, HO, Hh0, Hh1, Hm⟩
  try dsimp only
  iapply (runs_seq c)
  iapply (run_part2 X K c q p) $$ [HO CbR Hm HB Hback He1 He0 TsR TvR TsL TvL Hi0 Hi1 Iv1]
  · isplitr; · iexact Hctx
    isplitl [HO]; · iexact HO
    isplitl [CbR]; · iexact CbR
    isplitl [Hm]; · iexact Hm
    isplitl [HB]; · iexact HB
    isplitl [Hback]; · iexact Hback
    isplitl [He1]; · iexact He1
    isplitl [He0]; · iexact He0
    isplitl [TsR]; · iexact TsR
    isplitl [TvR]; · iexact TvR
    isplitl [TsL]; · iexact TsL
    isplitl [TvL]; · iexact TvL
    isplitl [Hi0]; · iexact Hi0
    isplitl [Hi1] <;> iassumption
  iintro ⟨HO, Db, Hxp, Sv, Hs0, Hs1, He1, CsR, He0, CsL, Hi0, Iv0, Hi1⟩
  try dsimp only
  iapply (runs_seq c)
  iapply (run_part3 X c q) $$ [Hi0 Ho0 Hr1 Ev0 Hi1 HO]
  · isplitl [Hi0]; · iexact Hi0
    isplitl [Ho0]; · iexact Ho0
    isplitl [Hr1]; · iexact Hr1
    isplitl [Ev0]; · iexact Ev0
    isplitl [Hi1] <;> iassumption
  iintro ⟨Hi0, Ho0, Hi1, Hx, Iv1, HO⟩
  try dsimp only
  iapply (runs_seq c)
  iapply (run_part4 X c q) $$ [Hi0 Hx Iv0 Hi1 Ho1 Hr2 Ev1 HO]
  · isplitl [Hi0]; · iexact Hi0
    isplitl [Hx]; · iexact Hx
    isplitl [Iv0]; · iexact Iv0
    isplitl [Hi1]; · iexact Hi1
    isplitl [Ho1]; · iexact Ho1
    isplitl [Hr2]; · iexact Hr2
    isplitl [Ev1] <;> iassumption
  iintro ⟨Hi1, Hi0, Hx, Iv0, Ho1, HO⟩
  try dsimp only
  iapply (runs_seq c)
  iapply (run_part5 X c q) $$ [Hi1 Hx Iv1 Hi0 Ho0 HO]
  · isplitl [Hi1]; · iexact Hi1
    isplitl [Hx]; · iexact Hx
    isplitl [Iv1]; · iexact Iv1
    isplitl [Hi0]; · iexact Hi0
    isplitl [Ho0] <;> iassumption
  iintro ⟨Hi1, Hr1, Ev0, Ho0, Hi0, HO⟩
  try dsimp only
  iapply (runs_seq c)
  iapply (run_part6 X c q) $$ [Ho0 Hr3 Ev0 Hi1 Hi0 Iv0 Ho1 HO]
  · isplitl [Ho0]; · iexact Ho0
    isplitl [Hr3]; · iexact Hr3
    isplitl [Ev0]; · iexact Ev0
    isplitl [Hi1]; · iexact Hi1
    isplitl [Hi0]; · iexact Hi0
    isplitl [Iv0]; · iexact Iv0
    isplitl [Ho1] <;> iassumption
  iintro %v156 %v161
  iintro ⟨%hw, Ho0, Hi1, Iv1, Hi0, Ho1, Hr2, Ev1, HO⟩
  try dsimp only
  iapply (runs_seq c)
  iapply (run_part7 X c q hw) $$ [Ho1 Hr4 Ev1 Hi0 Hi1 Iv1 Ho0 HO]
  · isplitl [Ho1]; · iexact Ho1
    isplitl [Hr4]; · iexact Hr4
    isplitl [Ev1]; · iexact Ev1
    isplitl [Hi0]; · iexact Hi0
    isplitl [Hi1]; · iexact Hi1
    isplitl [Iv1]; · iexact Iv1
    isplitl [Ho0] <;> iassumption
  iintro ⟨Ho1, Hi0, Iv0, Hi1, Ho0, Hr3, Ev0, HO⟩
  try dsimp only
  iapply (runs_seq c)
  iapply (run_part8 X c q) $$ [Hi0 Ho0 Hr5 Ev0 Hi1 HO]
  · isplitl [Hi0]; · iexact Hi0
    isplitl [Ho0]; · iexact Ho0
    isplitl [Hr5]; · iexact Hr5
    isplitl [Ev0]; · iexact Ev0
    isplitl [Hi1] <;> iassumption
  iintro ⟨Hi0, Ho0, Hi1, Hx, Iv1, HO⟩
  try dsimp only
  iapply (runs_seq c)
  iapply (run_part9 X c q) $$ [Hi0 Hx Iv0 Ho1 Hi1 Hr6 HO]
  · isplitl [Hi0]; · iexact Hi0
    isplitl [Hx]; · iexact Hx
    isplitl [Iv0]; · iexact Iv0
    isplitl [Ho1]; · iexact Ho1
    isplitl [Hi1]; · iexact Hi1
    isplitl [Hr6] <;> iassumption
  iintro ⟨Hi0, Hr4, Ho1, Hi1, HO⟩
  try dsimp only
  iapply (runs_seq c)
  iapply (run_part10 X K c q) $$ [Hi0 Hi1 Iv1 Ho0 HO CvL Av0 Hh0]
  · isplitr; · iexact Hctx
    isplitl [Hi0]; · iexact Hi0
    isplitl [Hi1]; · iexact Hi1
    isplitl [Iv1]; · iexact Iv1
    isplitl [Ho0]; · iexact Ho0
    isplitl [HO]; · iexact HO
    isplitl [CvL]; · iexact CvL
    isplitl [Av0] <;> iassumption
  iintro %r
  iintro ⟨Hi0, Iv0, Hi1, Ho0, Hr5, Ev0, HO, Dv0, Hh0⟩
  try dsimp only
  iapply (runs_seq c)
  iapply (run_part11 X c q) $$ [Hi0 Ho0 Hr0 Ev0 Hi1 HO]
  · isplitl [Hi0]; · iexact Hi0
    isplitl [Ho0]; · iexact Ho0
    isplitl [Hr0]; · iexact Hr0
    isplitl [Ev0]; · iexact Ev0
    isplitl [Hi1] <;> iassumption
  iintro ⟨Hi0, Ho0, Hi1, Hx, Iv1, HO⟩
  try dsimp only
  iapply (runs_seq c)
  iapply (run_part12 X K c) $$ [Ho1 HO Hi1 CvR Av1 Hh1]
  · isplitr; · iexact Hctx
    isplitl [Ho1]; · iexact Ho1
    isplitl [HO]; · iexact HO
    isplitl [Hi1]; · iexact Hi1
    isplitl [CvR]; · iexact CvR
    isplitl [Av1] <;> iassumption
  iintro ⟨Hr6, Ev1, HO, Dv1, Hh1, Hi1, Ho1⟩
  try dsimp only
  simp only [Prog.lift, Prog.bind_op, Prog.bind_ret, Prog.pure_eq_ret]
  iapply (start_out X c (b := 7) rfl) $$ [Ho1 Hr7 Ev1]
  · isplitl [Ho1]; · iexact Ho1
    isplitl [Hr7] <;> iassumption
  iintro Ho1
  iapply (wait_pend0 c rfl) $$ [Ho0 HO]
  · isplitl [Ho0] <;> iassumption
  iintro ⟨⟨Ho0, Hr0⟩, Ev0, HO⟩
  iapply (wait_pend0 c rfl) $$ [Ho1 HO]
  · isplitl [Ho1] <;> iassumption
  iintro ⟨⟨Ho1, Hr7⟩, Ev1, HO⟩
  iapply (wait_pay_if X K c (right_iff c) 1 rfl (dutiesOf_send0 c) (D := edgeAny c 1) (E := edgeAny c 1)
    (srcw := slotOf haloM 0 0 1 inb_S2x1x1024_S1x1x1024_0_0_0 squeezes_S1x1x1024_S1x1024) (dstw := slotOf edgeM 1 0 1 inb_S2x1x1024_S1x1x1024_1_0_0 squeezes_S1x1x1024_S1x1024)
    (fun _ => Entails.of_eq (payOf_send0 X c false)) (fun _ => BI.Entails.refl _) rfl) $$ [HO CsR As0 He1]
  · isplitr; · iexact Hctx
    isplitl [HO]; · iexact HO
    isplitl [CsR]; · iexact CsR
    isplitl [As0] <;> iassumption
  iintro ⟨HO, Ds0, He1⟩
  iapply (wait_pay_if X K c (left_iff c) 2 rfl (dutiesOf_send1 c) (D := edgeAny c 0) (E := edgeAny c 0)
    (srcw := slotOf haloM 1 0 1 inb_S2x1x1024_S1x1x1024_1_0_0 squeezes_S1x1x1024_S1x1024) (dstw := slotOf edgeM 0 0 1 inb_S2x1x1024_S1x1x1024_0_0_0 squeezes_S1x1x1024_S1x1024)
    (fun _ => Entails.of_eq (payOf_send1 X c false)) (fun _ => BI.Entails.refl _) rfl) $$ [HO CsL As1 He0]
  · isplitr; · iexact Hctx
    isplitl [HO]; · iexact HO
    isplitl [CsL]; · iexact CsL
    isplitl [As1] <;> iassumption
  iintro ⟨HO, Ds1, He0⟩
  unfold runs
  rw [wp_ret]
  iapply Hk
  unfold bodyOut
  isplitl [HO]; · iexact HO
  isplitl [Iv0]; · iexact Iv0
  isplitl [Iv1]; · iexact Iv1
  isplitl [Ev0]; · iexact Ev0
  isplitl [Ev1]; · iexact Ev1
  isplitl [Sv]; · iexact Sv
  isplitl [Hi0]; · iexact Hi0
  isplitl [Hi1]; · iexact Hi1
  isplitl [Ho0]; · iexact Ho0
  isplitl [Ho1]; · iexact Ho1
  isplitl [Hh0]; · iexact Hh0
  isplitl [Hh1]; · iexact Hh1
  isplitl [Hs0]; · iexact Hs0
  isplitl [Hs1]; · iexact Hs1
  isplitl [He0]; · iexact He0
  isplitl [He1]; · iexact He1
  isplitl [Hxp]; · iexact Hxp
  isplitl [Hx]; · iexact Hx
  isplitl [Hr0]; · iexact Hr0
  isplitl [Hr1]; · iexact Hr1
  isplitl [Hr2]; · iexact Hr2
  isplitl [Hr3]; · iexact Hr3
  isplitl [Hr4]; · iexact Hr4
  isplitl [Hr5]; · iexact Hr5
  isplitl [Hr6]; · iexact Hr6
  isplitl [Hr7]; · iexact Hr7
  isplitl [Db]; · iexact Db
  isplitl [Ds0]; · iexact Ds0
  isplitl [Ds1]; · iexact Ds1
  isplitl [Dv0]; · iexact Dv0
  iexact Dv1

end Body

end Cert.KernelIdealProof
-- ==== Proof.KernelIdeal.Split.lean ====
/- Whole buffers of a device as the slots and blocks its body works with, and back. -/
module

public import proofs.«01_k».proof.Proof.KernelIdeal.Body

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

section Split
variable (X : Blocks F) (c : Dev nD)

/-- A buffer whose elements are those of `S` and those of `T`, at some contents: each of the two at some contents. -/
theorem two_parts {ℓ : Loc nD τ sig} {S T : Finset (Idx ℓ)} (hd : Disjoint S T) (hu : S ∪ T = Finset.univ) :
    (iprop(∃ f : Buf (Elt F) ℓ, ℓ ↦{fullShare} f) : sProp 𝕄) ⊢ iprop((∃ f : Buf (Elt F) ℓ, ℓ ↦[S]{fullShare} f) ∗ ∃ f : Buf (Elt F) ℓ, ℓ ↦[T]{fullShare} f) := by
  iintro ⟨%f, H⟩
  rw [← hu]
  ihave H := (pointsTo_union hd).1 $$ H
  icases H with ⟨H1, H2⟩
  isplitl [H1]
  · iexists f; iexact H1
  · iexists f; iexact H2
/-- And back. -/
theorem two_back {ℓ : Loc nD τ sig} {S T : Finset (Idx ℓ)} (hd : Disjoint S T) (hu : S ∪ T = Finset.univ) :
    (iprop((∃ f : Buf (Elt F) ℓ, ℓ ↦[S]{fullShare} f) ∗ ∃ f : Buf (Elt F) ℓ, ℓ ↦[T]{fullShare} f) : sProp 𝕄) ⊢ iprop(∃ f : Buf (Elt F) ℓ, ℓ ↦{fullShare} f) := by
  have e (f g : Buf (Elt F) ℓ) : iprop((ℓ ↦[S]{fullShare} f) ∗ ℓ ↦[T]{fullShare} g) ⊢ (iprop(∃ f : Buf (Elt F) ℓ, ℓ ↦{fullShare} f) : sProp 𝕄) := by
    refine (pointsTo_join hd).trans ?_
    rw [hu]
    iintro H
    iexists _; iexact H
  iintro ⟨⟨%f, H1⟩, ⟨%g, H2⟩⟩
  iapply (e f g)
  isplitl [H1] <;> iassumption

theorem slots_disj (n : ℕ) : Disjoint (rows3 n 0 0 n) (rows3 n 1 0 n) :=
  Finset.disjoint_left.2 fun i h h' => by
    rw [mem_rows3] at h h'
    exact absurd (h.1.symm.trans h'.1) (by decide)
theorem slots_all (n : ℕ) : rows3 n 0 0 n ∪ rows3 n 1 0 n = Finset.univ := by
  ext i
  have h0 : (i 0).val < 2 := (i 0).isLt
  have h1 : (i 1).val < n := (i 1).isLt
  rw [Finset.mem_union, mem_rows3, mem_rows3]
  simp only [Finset.mem_univ, iff_true]
  omega

/-- Each two-slot buffer is its two slots. -/
theorem in_slots : (iprop(∃ f : Buf (Elt F) ((c : Thread nD τ).loc cc0_scratch0), ((c : Thread nD τ).loc cc0_scratch0) ↦{fullShare} f) : sProp 𝕄) ⊢ iprop(inAny c 0 ∗ inAny c 1) :=
  two_parts (ℓ := (c : Thread nD τ).loc cc0_scratch0) (slots_disj 272) (slots_all 272)
theorem in_whole : iprop(inAny c 0 ∗ inAny c 1) ⊢ (iprop(∃ f : Buf (Elt F) ((c : Thread nD τ).loc cc0_scratch0), ((c : Thread nD τ).loc cc0_scratch0) ↦{fullShare} f) : sProp 𝕄) :=
  two_back (ℓ := (c : Thread nD τ).loc cc0_scratch0) (slots_disj 272) (slots_all 272)
theorem out_slots : (iprop(∃ f : Buf (Elt F) ((c : Thread nD τ).loc cc0_scratch1), ((c : Thread nD τ).loc cc0_scratch1) ↦{fullShare} f) : sProp 𝕄) ⊢ iprop(outAny c 0 ∗ outAny c 1) :=
  two_parts (ℓ := (c : Thread nD τ).loc cc0_scratch1) (slots_disj 256) (slots_all 256)
theorem out_whole : iprop(outAny c 0 ∗ outAny c 1) ⊢ (iprop(∃ f : Buf (Elt F) ((c : Thread nD τ).loc cc0_scratch1), ((c : Thread nD τ).loc cc0_scratch1) ↦{fullShare} f) : sProp 𝕄) :=
  two_back (ℓ := (c : Thread nD τ).loc cc0_scratch1) (slots_disj 256) (slots_all 256)
theorem halo_slots : (iprop(∃ f : Buf (Elt F) ((c : Thread nD τ).loc cc0_scratch2), ((c : Thread nD τ).loc cc0_scratch2) ↦{fullShare} f) : sProp 𝕄) ⊢ iprop(haloAny c 0 ∗ haloAny c 1) :=
  two_parts (ℓ := (c : Thread nD τ).loc cc0_scratch2) (slots_disj 1) (slots_all 1)
theorem halo_whole : iprop(haloAny c 0 ∗ haloAny c 1) ⊢ (iprop(∃ f : Buf (Elt F) ((c : Thread nD τ).loc cc0_scratch2), ((c : Thread nD τ).loc cc0_scratch2) ↦{fullShare} f) : sProp 𝕄) :=
  two_back (ℓ := (c : Thread nD τ).loc cc0_scratch2) (slots_disj 1) (slots_all 1)
theorem stage_slots : (iprop(∃ f : Buf (Elt F) ((c : Thread nD τ).loc cc0_scratch3), ((c : Thread nD τ).loc cc0_scratch3) ↦{fullShare} f) : sProp 𝕄) ⊢ iprop(stageAny c 0 ∗ stageAny c 1) :=
  two_parts (ℓ := (c : Thread nD τ).loc cc0_scratch3) (slots_disj 8) (slots_all 8)
theorem stage_whole : iprop(stageAny c 0 ∗ stageAny c 1) ⊢ (iprop(∃ f : Buf (Elt F) ((c : Thread nD τ).loc cc0_scratch3), ((c : Thread nD τ).loc cc0_scratch3) ↦{fullShare} f) : sProp 𝕄) :=
  two_back (ℓ := (c : Thread nD τ).loc cc0_scratch3) (slots_disj 8) (slots_all 8)
theorem edge_slots : (iprop(∃ f : Buf (Elt F) ((c : Thread nD τ).loc cc0_scratch4), ((c : Thread nD τ).loc cc0_scratch4) ↦{fullShare} f) : sProp 𝕄) ⊢ iprop(edgeAny c 0 ∗ edgeAny c 1) :=
  two_parts (ℓ := (c : Thread nD τ).loc cc0_scratch4) (slots_disj 1) (slots_all 1)
theorem edge_whole : iprop(edgeAny c 0 ∗ edgeAny c 1) ⊢ (iprop(∃ f : Buf (Elt F) ((c : Thread nD τ).loc cc0_scratch4), ((c : Thread nD τ).loc cc0_scratch4) ↦{fullShare} f) : sProp 𝕄) :=
  two_back (ℓ := (c : Thread nD τ).loc cc0_scratch4) (slots_disj 1) (slots_all 1)

/-- The five scratch buffers whole. -/
def scratch : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f))

/-- The eight blocks of the result cover it. -/
theorem blocks_all : (Finset.univ : Finset (Fin 8)).biUnion (fun b => rows2 (b.val * 256) (b.val * 256 + 256)) = Finset.univ := by
  ext i
  have h0 : (i 0).val < 2048 := (i 0).isLt
  simp only [Finset.mem_biUnion, Finset.mem_univ, true_and, iff_true]
  refine ⟨⟨(i 0).val / 256, by omega⟩, (mem_rows2 i).2 ?_⟩
  show (i 0).val / 256 * 256 ≤ (i 0).val ∧ (i 0).val < (i 0).val / 256 * 256 + 256
  omega
theorem blocks_disj (a : Fin 8) (_ : a ∈ (Finset.univ : Finset (Fin 8))) (b : Fin 8) (_ : b ∈ (Finset.univ : Finset (Fin 8))) (h : a ≠ b) :
    Disjoint (rows2 (a.val * 256) (a.val * 256 + 256)) (rows2 (b.val * 256) (b.val * 256 + 256)) :=
  Finset.disjoint_left.2 fun i h1 h2 => by
    rw [mem_rows2] at h1 h2
    exact h (Fin.ext (by omega))

theorem res_blocks (f : Buf (Elt F) ((c : Thread nD τ).loc main_v1)) :
    (((c : Thread nD τ).loc main_v1) ↦{fullShare} f : sProp 𝕄)
      = iprop(resPts c 0 f ∗ resPts c 1 f ∗ resPts c 2 f ∗ resPts c 3 f ∗ resPts c 4 f ∗ resPts c 5 f ∗ resPts c 6 f ∗ resPts c 7 f) := by
  have e : (((c : Thread nD τ).loc main_v1) ↦[(Finset.univ : Finset (Fin 8)).biUnion fun b => rows2 (b.val * 256) (b.val * 256 + 256)]{fullShare} f : sProp 𝕄)
      = bigSep (Finset.univ : Finset (Fin 8)) fun b => ((c : Thread nD τ).loc main_v1) ↦[rows2 (b.val * 256) (b.val * 256 + 256)]{fullShare} f :=
    pointsTo_biUnion _ _ blocks_disj
  rw [blocks_all] at e
  exact e.trans (bigSep_univ_eq_bigSepL [0, 1, 2, 3, 4, 5, 6, 7] (by decide) (by decide) _)

theorem x_halves : (xAt X c fullShare : sProp 𝕄) ⊣⊢ iprop(xAt X c fullShare.left ∗ xAt X c fullShare.right) :=
  pointsTo_share (PosShare.mem_left_op_right fullShare)

end Split

end Cert.KernelIdealProof
-- ==== Proof.KernelIdeal.Deal.lean ====
/- How the launch deals out the exchange: its semaphores, their records, and the units owed to each device. -/
module

public import proofs.«01_k».proof.Proof.KernelIdeal.Split

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

section Deal
variable (X : Blocks F) (c : Dev nD)

/-- The kernel's own semaphores. -/
def osem : Fin 9 → SemLoc sig
  | 0 => .dma in0S | 1 => .dma in1S | 2 => .dma out0S | 3 => .dma out1S | 4 => .dma stageS
  | 5 => .dma send0S | 6 => .dma send1S | 7 => .dma recv0S | 8 => .dma recv1S

theorem ownSemFacts : Pipeline.OwnSemFacts cfg0.spec osem := by decide

/-! ## Cells and tokens -/

def semOf : Fin 5 → SemLoc sig
  | 0 => .reg barS | 1 => .dma send0S | 2 => .dma send1S | 3 => .dma recv0S | 4 => .dma recv1S
def whichOf : Fin 6 → SemLoc sig × Bool
  | 0 => (.reg barS, false) | 1 => (.reg barS, true) | 2 => (.dma send0S, false) | 3 => (.dma send1S, false)
  | 4 => (.dma recv0S, false) | 5 => (.dma recv1S, false)

theorem kcell_inj : Function.Injective kcell := by
  rintro ⟨c, k⟩ ⟨c', k'⟩ h
  have hc : c = c' := by
    have := congrArg (fun g : GSem nD τ sig => g.1.1) h
    fin_cases k <;> fin_cases k' <;> exact this
  subst hc
  have hk : k = k' := by
    have h2 : semOf k = semOf k' := by
      have := congrArg (fun g : GSem nD τ sig => g.2) h
      fin_cases k <;> fin_cases k' <;> exact this
    revert h2; clear h; revert k k'; decide
  rw [hk]

/-- The semaphores of the exchange on every device. -/
def cells5 : Finset (GSem nD τ sig) := Finset.univ.map ⟨kcell, kcell_inj⟩

/-- The duties of a device's own semaphores. -/
def dutyOf (x : Dev nD × Fin 6) : GSem nD τ sig × ℕ × Bool :=
  match x.2 with
  | 0 => (barCell x.1, 0, false)
  | 1 => (barCell x.1, 0, true)
  | 2 => (dmaCell x.1 send0S, 0, false)
  | 3 => (dmaCell x.1 send1S, 0, false)
  | 4 => (dmaCell x.1 recv0S, 0, false)
  | 5 => (dmaCell x.1 recv1S, 0, false)

theorem dutyOf_inj : Function.Injective dutyOf := by
  rintro ⟨c, k⟩ ⟨c', k'⟩ h
  have hc : c = c' := by
    have := congrArg (fun x : GSem nD τ sig × ℕ × Bool => x.1.1.1) h
    fin_cases k <;> fin_cases k' <;> exact this
  subst hc
  have hk : k = k' := by
    have h2 : whichOf k = whichOf k' := by
      have := congrArg (fun x : GSem nD τ sig × ℕ × Bool => (x.1.2, x.2.2)) h
      fin_cases k <;> fin_cases k' <;> exact this
    revert h2; clear h; revert k k'; decide
  rw [hk]

def duties6 : Finset (GSem nD τ sig × ℕ × Bool) := Finset.univ.map ⟨dutyOf, dutyOf_inj⟩

/-- The resources the launch starts from. -/
def u₀ : UU :=
  (initOf (Pipeline.cells cfgs cellOf_inj) (Pipeline.launchToks cfgs cellOf_inj), (initOf cells5 duties6, 1))

def ownDuties : sProp 𝕄 :=
  iprop(dutyTok ER (barCell c) 0 false ∗ dutyTok ER (barCell c) 0 true ∗ dutyTok ER (dmaCell c send0S) 0 false
    ∗ dutyTok ER (dmaCell c send1S) 0 false ∗ dutyTok ER (dmaCell c recv0S) 0 false ∗ dutyTok ER (dmaCell c recv1S) 0 false)

/-- The duties a device pays: its two sends, a signal and a row to each neighbour around the ring. -/
def payDuties : sProp 𝕄 :=
  iprop(dutyTok ER (barCell (nxt c)) 0 false ∗ dutyTok ER (barCell (prv c)) 0 true ∗ dutyTok ER (dmaCell c send0S) 0 false
    ∗ dutyTok ER (dmaCell c send1S) 0 false ∗ dutyTok ER (dmaCell (nxt c) recv0S) 0 false ∗ dutyTok ER (dmaCell (prv c) recv1S) 0 false)

theorem duties_around : (bigSep Finset.univ fun c : Dev nD => (ownDuties c : sProp 𝕄)) ⊢ bigSep Finset.univ fun c : Dev nD => payDuties c := by
  unfold ownDuties payDuties
  simp only [bigSep_sep']
  rw [bigSep_univ_equiv ring (fun c : Dev nD => (dutyTok ER (barCell c) 0 false : sProp 𝕄)),
    bigSep_univ_equiv ring.symm (fun c : Dev nD => (dutyTok ER (barCell c) 0 true : sProp 𝕄)),
    bigSep_univ_equiv ring (fun c : Dev nD => (dutyTok ER (dmaCell c recv0S) 0 false : sProp 𝕄)),
    bigSep_univ_equiv ring.symm (fun c : Dev nD => (dutyTok ER (dmaCell c recv1S) 0 false : sProp 𝕄))]
  exact BI.Entails.refl _

theorem over5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
theorem over6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- A device's part of the records before its semaphores are handed over. -/
def records : sProp 𝕄 :=
  iprop((bigSep Finset.univ fun k : Fin 5 => roundState ER (Rd X) (kcell (c, k)) 0)
    ∗ (bigSep Finset.univ fun k : Fin 5 => iprop(atPos ER (kcell (c, k)) 0 ∅ 0 ∗ reached ER (kcell (c, k)) 0)) ∗ ownDuties c)

theorem records_fund : BI.own (ER (initOf cells5 duties6)) ⊢ (|==> bigSep Finset.univ (records X) : sProp 𝕄) := by
  have hC (Φ : GSem nD τ sig → sProp 𝕄) : bigSep cells5 Φ = bigSep Finset.univ fun c : Dev nD => bigSep Finset.univ fun k : Fin 5 => Φ (kcell (c, k)) := by
    unfold cells5; rw [bigSep_map, bigSep_univ_prod]; rfl
  have hD : bigSep duties6 (fun x => (dutyTok ER x.1 x.2.1 x.2.2 : sProp 𝕄)) = bigSep Finset.univ fun c : Dev nD => ownDuties c := by
    unfold duties6; rw [bigSep_map, bigSep_univ_prod]
    exact bigSep_congr fun c _ => by unfold ownDuties; rw [over6]; rfl
  iintro H
  imod (Rounds.fund ER (Rd X) cells5 duties6) $$ H with ⟨Hs, Hr, Ha, Ht⟩
  imodintro
  ihave Hs := (Entails.of_eq (hC fun g => roundState ER (Rd X) g 0)) $$ Hs
  ihave Ha := (Entails.of_eq (hC fun g => atPos ER g 0 ∅ 0)) $$ Ha
  ihave Hr := (Entails.of_eq (hC fun g => reached ER g 0)) $$ Hr
  ihave Ht := (Entails.of_eq hD) $$ Ht
  unfold records
  simp only [bigSep_sep']
  isplitl [Hs]; · iexact Hs
  isplitl [Ha Hr]
  · isplitl [Ha] <;> iassumption
  iexact Ht

/-! ## The semaphores' counters -/

/-- The counters the local copies use. -/
def frees : sProp 𝕄 := iprop(free c in0S ∗ free c in1S ∗ free c out0S ∗ free c out1S ∗ free c stageS)

theorem ownSems_eq : (Pipeline.ownSems0 (Ix := Unit) (Name := ℕ) (U := UU) (Lvl := ℕ) (Val := Elt F) (τ := τ) osem c : sProp 𝕄)
    = iprop(free c in0S ∗ free c in1S ∗ free c out0S ∗ free c out1S ∗ free c stageS ∗ free c send0S ∗ free c send1S ∗ free c recv0S ∗ free c recv1S) := by
  rw [Pipeline.ownSems0_eq_of_list c osem [0, 1, 2, 3, 4, 5, 6, 7, 8] (by decide) (by decide)]; rfl
theorem barSem_eq : (unscopedSems0 c : sProp 𝕄) = semVal (barCell c) 0 := by
  unfold unscopedSems0
  exact (bigSep_eq_bigSepL_of_eq [SemLoc.reg barS] (by decide) (by decide) _).trans rfl

/-- All a device's counters at zero, the exchange's and the others. -/
theorem counters :
    iprop(Pipeline.ownSems0 (Ix := Unit) (Name := ℕ) (U := UU) (Lvl := ℕ) (Val := Elt F) (τ := τ) osem c ∗ unscopedSems0 c)
      ⊢ (iprop((bigSep Finset.univ fun k : Fin 5 => semVal (kcell (c, k)) 0) ∗ frees c) : sProp 𝕄) := by
  rw [ownSems_eq, barSem_eq, over5]
  unfold frees free
  iintro ⟨⟨H0, H1, H2, H3, H4, H5, H6, H7, H8⟩, HB⟩
  isplitl [HB H5 H6 H7 H8]
  · isplitl [HB]; · iexact HB
    isplitl [H5]; · iexact H5
    isplitl [H6]; · iexact H6
    isplitl [H7]; · iexact H7
    iexact H8
  isplitl [H0]; · iexact H0
  isplitl [H1]; · iexact H1
  isplitl [H2]; · iexact H2
  isplitl [H3]; · iexact H3
  iexact H4

/-- A device's semaphores handed over to their invariants. -/
theorem hand_over :
    iprop(Pipeline.ownSems0 (Ix := Unit) (Name := ℕ) (U := UU) (Lvl := ℕ) (Val := Elt F) (τ := τ) osem c ∗ unscopedSems0 c ∗ records X c)
      ⊢ |={Set.univ}=> iprop((bigSep Finset.univ fun k : Fin 5 => iprop(∃ κ : ℕ, cellInv ER (Rd X) κ (kcell (c, k))))
          ∗ (bigSep Finset.univ fun k : Fin 5 => iprop(atPos ER (kcell (c, k)) 0 ∅ 0 ∗ reached ER (kcell (c, k)) 0)) ∗ ownDuties c ∗ frees c) := by
  have e : iprop((bigSep Finset.univ fun k : Fin 5 => semVal (kcell (c, k)) 0) ∗ bigSep Finset.univ fun k : Fin 5 => roundState ER (Rd X) (kcell (c, k)) 0)
      ⊢ (|={Set.univ}=> bigSep Finset.univ fun k : Fin 5 => iprop(∃ κ : ℕ, cellInv ER (Rd X) κ (kcell (c, k))) : sProp 𝕄) := by
    rw [← bigSep_sep']
    exact (bigSep_mono fun k _ => (Rounds.body_intro ER (Rd X) (kcell (c, k))).trans inv_alloc).trans (bigSep_fupd _ _)
  unfold records
  iintro ⟨Ho, Hu, Hs, Ha, Ht⟩
  ihave H := (counters (F := F) c) $$ [Ho Hu]
  · isplitl [Ho] <;> iassumption
  icases H with ⟨Hv, Hf⟩
  imod e $$ [Hv Hs] with HI
  · isplitl [Hv] <;> iassumption
  imodintro
  isplitl [HI]; · iexact HI
  isplitl [Ha]; · iexact Ha
  isplitl [Ht]; · iexact Ht
  iexact Hf

/-- The records every device may read. -/
def shared (K : Dev nD × Fin 5 → ℕ) : sProp 𝕄 :=
  iprop((bigSep Finset.univ fun x => cellInv ER (Rd X) (K x) (kcell x)) ∗ bigSep Finset.univ fun x => reached ER (kcell x) 0)
instance shared_persistent (K : Dev nD × Fin 5 → ℕ) : BI.Persistent (shared (F := F) X K) := by unfold shared; infer_instance

/-- What belongs to one device: its places, the duties it pays, the other counters. -/
def mine : sProp 𝕄 := iprop((bigSep Finset.univ fun k : Fin 5 => atPos ER (kcell (c, k)) 0 ∅ 0) ∗ payDuties c ∗ frees c)

/-- What a device has of the exchange when its kernel begins. -/
def part : sProp 𝕄 := iprop(∃ K, shared X K ∗ mine c)

theorem to_part (K : Dev nD × Fin 5 → ℕ) : iprop(shared X K ∗ mine c) ⊢ (part X c : sProp 𝕄) := by
  unfold part
  iintro H
  iexists K; iexact H

theorem gather :
    (bigSep Finset.univ fun c : Dev nD => iprop((bigSep Finset.univ fun k : Fin 5 => iprop(∃ κ : ℕ, cellInv ER (Rd X) κ (kcell (c, k))))
          ∗ (bigSep Finset.univ fun k : Fin 5 => iprop(atPos ER (kcell (c, k)) 0 ∅ 0 ∗ reached ER (kcell (c, k)) 0)) ∗ ownDuties c ∗ frees c) : sProp 𝕄)
      ⊢ bigSep Finset.univ (part X) := by
  have e (K : Dev nD × Fin 5 → ℕ) : iprop(shared X K ∗ bigSep Finset.univ fun c : Dev nD => (mine c : sProp 𝕄)) ⊢ bigSep Finset.univ (part X) := by
    refine (sep_mono_left (BI.bigSep_of_persistent (Finset.univ : Finset (Dev nD)) (shared X K))).trans ?_
    rw [← bigSep_sep']
    exact bigSep_mono fun c _ => to_part X c K
  have em : (bigSep Finset.univ fun c : Dev nD => (mine c : sProp 𝕄))
      = iprop((bigSep Finset.univ fun c : Dev nD => bigSep Finset.univ fun k : Fin 5 => atPos ER (kcell (c, k)) 0 ∅ 0)
          ∗ (bigSep Finset.univ fun c : Dev nD => payDuties c) ∗ bigSep Finset.univ fun c : Dev nD => frees c) := by
    unfold mine
    rw [bigSep_sep', bigSep_sep']
  rw [bigSep_sep', bigSep_sep', bigSep_sep', ← bigSep_univ_prod (fun x : Dev nD × Fin 5 => iprop(∃ κ : ℕ, cellInv ER (Rd X) κ (kcell x))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun x : Dev nD × Fin 5 => (reached ER (kcell x) 0 : sProp 𝕄))]
  iintro ⟨HI, ⟨Ha, #HR⟩, Ht, Hf⟩
  ihave HK := (BI.bigSep_exists_pi Finset.univ (fun (x : Dev nD × Fin 5) (κ : ℕ) => (cellInv ER (Rd X) κ (kcell x) : sProp 𝕄))) $$ HI
  icases HK with ⟨%K, #HI⟩
  ihave Ht := (duties_around (F := F)) $$ Ht
  iapply (e K)
  isplitr
  · unfold shared
    isplitr
    · iexact HI
    · iexact HR
  · iapply (Entails.of_eq em.symm)
    isplitl [Ha]; · iexact Ha
    isplitl [Ht] <;> iassumption

/-- The semaphores of every device handed over at once. -/
theorem deal : (bigSep Finset.univ fun c => iprop(Pipeline.ownSems0 (Ix := Unit) (Name := ℕ) (U := UU) (Lvl := ℕ) (Val := Elt F) (τ := τ) osem c ∗ unscopedSems0 c ∗ records X c) : sProp 𝕄)
    ⊢ |={Set.univ}=> bigSep Finset.univ (part X) :=
  ((bigSep_mono fun c _ => hand_over X c).trans (bigSep_fupd _ _)).trans (BI.fupd_mono (gather X))

/-! ## The units owed to a device -/

/-- One semaphore's units out of what the devices owe. -/
theorem owed_units (O : Dev nD → CellTallies nD τ sig Unit) (sm : SemLoc sig) (n : ℕ) (h : ∑ d : Dev nD, O d ((c : Thread nD τ), sm) () = n) :
    (Pipeline.launchCred O c : sProp 𝕄) ⊢ cred (tallyAt ((c : Thread nD τ), sm) () n) := by
  have e : launchCredit (Pipeline.owing O) 0 ((c : Thread nD τ), sm) = Finsupp.single () n := by
    refine Finsupp.ext fun u => ?_
    cases u
    rw [Pipeline.launchCredit_owing, Finsupp.single_eq_same, h]
  have := Pipeline.launchCred_elim (Ix := Unit) (Val := Elt F) (Name := ℕ) (U := UU) (Lvl := ℕ) O c sm
  rw [e] at this
  exact this

theorem ones (p : Dev nD → Dev nD → Prop) [∀ a b, Decidable (p a b)] (q : Dev nD → Prop) [∀ a, Decidable (q a)] (n : ℕ)
    (h : ∀ c, (∑ d : Dev nD, if p d c then 1 else 0) = if q c then 1 else 0) (c : Dev nD) :
    (∑ d : Dev nD, if p d c then n else 0) = if q c then n else 0 := by
  have e (r : Prop) [Decidable r] : (if r then n else 0) = (if r then 1 else 0) * n := by
    by_cases hr : r
    · simp only [if_pos hr, Nat.one_mul]
    · simp only [if_neg hr, Nat.zero_mul]
  rw [Finset.sum_congr rfl fun d _ => e (p d c), ← Finset.sum_mul, h c, e (q c)]

theorem tally_if (P : Prop) [Decidable P] (a b : Dev nD) (sm : SemLoc sig) (n : ℕ) :
    (if P then tallyAt ((a : Thread nD τ), sm) () n else 0 : CellTallies nD τ sig Unit) ((b : Thread nD τ), sm) () = if P ∧ b = a then n else 0 := by
  by_cases hP : P
  · rw [if_pos hP, tallyAt_apply]
    by_cases hb : b = a
    · rw [if_pos ⟨by rw [hb], rfl⟩, if_pos ⟨hP, hb⟩]
    · rw [if_neg (fun h => hb (congrArg (fun g : GSem nD τ sig => g.1.1) h.1)), if_neg (fun h => hb h.2)]
  · rw [if_neg hP, if_neg (fun h => hP h.1), Pi.zero_apply, Finsupp.zero_apply]

theorem sum_owL : ∑ d : Dev nD, owL d (dmaCell c recv1S) () = if HasR c then N else 0 := by
  unfold owL
  rw [Finset.sum_congr rfl fun d _ => tally_if (HasL d) (prv d) c (.dma recv1S) N]
  exact ones (fun d c => HasL d ∧ c = prv d) HasR N (by decide) c
theorem sum_owR : ∑ d : Dev nD, owR d (dmaCell c recv0S) () = if HasL c then N else 0 := by
  unfold owR
  rw [Finset.sum_congr rfl fun d _ => tally_if (HasR d) (nxt d) c (.dma recv0S) N]
  exact ones (fun d c => HasR d ∧ c = nxt d) HasL N (by decide) c
theorem sum_obR : ∑ d : Dev nD, obR d (barCell c) () = if HasL c then 1 else 0 := by
  unfold obR
  rw [Finset.sum_congr rfl fun d _ => tally_if (HasR d) (nxt d) c (.reg barS) 1]
  exact ones (fun d c => HasR d ∧ c = nxt d) HasL 1 (by decide) c
theorem sum_obL : ∑ d : Dev nD, obL d (barCell c) () = if HasR c then 1 else 0 := by
  unfold obL
  rw [Finset.sum_congr rfl fun d _ => tally_if (HasL d) (prv d) c (.reg barS) 1]
  exact ones (fun d c => HasL d ∧ c = prv d) HasR 1 (by decide) c

theorem cred_if (P : Prop) [Decidable P] (g : GSem nD τ sig) (n : ℕ) :
    (cred (tallyAt g () (if P then n else 0)) : sProp 𝕄) ⊢ onlyIf P (cred (tallyAt g () n)) := by
  by_cases h : P
  · rw [if_pos h, onlyIf_pos h]
  · rw [if_neg h, onlyIf_neg h, tallyAt_zero, cred_zero]

/-- What every device has owed to it. -/
theorem units :
    (Pipeline.launchCred O₀ c : sProp 𝕄)
      ⊢ iprop(onlyIf (HasL c) (cred (tallyAt (barCell c) () 1)) ∗ onlyIf (HasR c) (cred (tallyAt (barCell c) () 1))
          ∗ onlyIf (HasL c) (cred (tallyAt (dmaCell c recv0S) () N)) ∗ onlyIf (HasR c) (cred (tallyAt (dmaCell c recv1S) () N))) := by
  have e : (Pipeline.launchCred O₀ c : sProp 𝕄)
      = iprop(((Pipeline.launchCred owL c ∗ Pipeline.launchCred owR c) ∗ Pipeline.launchCred obR c) ∗ Pipeline.launchCred obL c) := by
    show Pipeline.launchCred (fun d => ((owL d + owR d) + obR d) + obL d) c = _
    rw [Pipeline.launchCred_add, Pipeline.launchCred_add, Pipeline.launchCred_add]
  rw [e]
  iintro ⟨⟨⟨H1, H2⟩, H3⟩, H4⟩
  ihave H1 := (owed_units (F := F) c owL (.dma recv1S) _ (sum_owL c)) $$ H1
  ihave H2 := (owed_units (F := F) c owR (.dma recv0S) _ (sum_owR c)) $$ H2
  ihave H3 := (owed_units (F := F) c obR (.reg barS) _ (sum_obR c)) $$ H3
  ihave H4 := (owed_units (F := F) c obL (.reg barS) _ (sum_obL c)) $$ H4
  isplitl [H3]; · iapply (cred_if (HasL c) (barCell c) 1); iexact H3
  isplitl [H4]; · iapply (cred_if (HasR c) (barCell c) 1); iexact H4
  isplitl [H2]; · iapply (cred_if (HasL c) (dmaCell c recv0S) N); iexact H2
  iapply (cred_if (HasR c) (dmaCell c recv1S) N); iexact H1

end Deal

end Cert.KernelIdealProof
-- ==== Proof.KernelIdeal.Launch.lean ====
/- The launch: what each device holds before and after its kernel, and the run of the whole program. -/
module

public import proofs.«01_k».proof.Proof.KernelIdeal.Deal
public import Idealize.ShloMosaic.Lib.Pipeline.CollectiveSegs

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

open Idealize.ShloMosaic.Pipeline (Dat Cfg Window BodyObligation cellOf)

section State
variable (X : Blocks F) (c : Dev nD)

/-- The result array at some contents; at the block's. -/
def resSome : sProp 𝕄 := iprop(∃ f : Buf (Elt F) ((c : Thread nD τ).loc main_v1), ((c : Thread nD τ).loc main_v1) ↦{fullShare} f)
def resDone : sProp 𝕄 := ((c : Thread nD τ).loc main_v1) ↦{fullShare} (specBlock X c : Buf (Elt F) ((c : Thread nD τ).loc main_v1))

/-- The units owed to the device. -/
def due : sProp 𝕄 :=
  iprop(onlyIf (HasL c) (cred (tallyAt (barCell c) () 1)) ∗ onlyIf (HasR c) (cred (tallyAt (barCell c) () 1))
          ∗ onlyIf (HasL c) (cred (tallyAt (dmaCell c recv0S) () N)) ∗ onlyIf (HasR c) (cred (tallyAt (dmaCell c recv1S) () N)))

/-- What the device has when its kernel is launched. -/
def start : sProp 𝕄 := iprop((∃ K, ctx X K) ∗ mine c ∗ due c ∗ xAt X c fullShare ∗ resSome c)
/-- With its scratch buffers: what its kernel begins with. -/
def before : sProp 𝕄 := iprop(start X c ∗ scratch c)
/-- What its kernel ends with. -/
def after : sProp 𝕄 :=
  iprop(xAt X c fullShare ∗ resDone X c ∗ unscopedSems0 c
    ∗ Pipeline.ownSems0 (Ix := Unit) (Name := ℕ) (U := UU) (Lvl := ℕ) (Val := Elt F) (τ := τ) osem c ∗ scratch c)

theorem onlyIf_of (p : Prop) [Decidable p] (P : sProp 𝕄) : P ⊢ onlyIf p P := by
  by_cases h : p
  · rw [onlyIf_pos h]
  · rw [onlyIf_neg h]
    iintro -
    iempintro

theorem res_open : (resSome c : sProp 𝕄) ⊢ iprop(resAny c 0 ∗ resAny c 1 ∗ resAny c 2 ∗ resAny c 3 ∗ resAny c 4 ∗ resAny c 5 ∗ resAny c 6 ∗ resAny c 7) := by
  unfold resSome resAny
  iintro ⟨%f, H⟩
  ihave H := (Entails.of_eq (res_blocks c f)) $$ H
  icases H with ⟨H0, H1, H2, H3, H4, H5, H6, H7⟩
  isplitl [H0]; · iexists f; iexact H0
  isplitl [H1]; · iexists f; iexact H1
  isplitl [H2]; · iexists f; iexact H2
  isplitl [H3]; · iexists f; iexact H3
  isplitl [H4]; · iexists f; iexact H4
  isplitl [H5]; · iexists f; iexact H5
  isplitl [H6]; · iexists f; iexact H6
  iexists f; iexact H7
theorem res_close : iprop(resIs X c 0 ∗ resIs X c 1 ∗ resIs X c 2 ∗ resIs X c 3 ∗ resIs X c 4 ∗ resIs X c 5 ∗ resIs X c 6 ∗ resIs X c 7) ⊢ (resDone X c : sProp 𝕄) :=
  Entails.of_eq (res_blocks c (specBlock X c)).symm

/-- The start of the body. -/
theorem enter :
    iprop(owing c (O₀ c) ∗ mine c ∗ due c ∗ xAt X c fullShare ∗ resSome c ∗ scratch c) ⊢ (bodyIn X c fullShare.left fullShare.right : sProp 𝕄) := by
  unfold mine due scratch payDuties frees bodyIn
  rw [over5]
  iintro ⟨HO, ⟨⟨A0, A1, A2, A3, A4⟩, ⟨T1, T2, T3, T4, T5, T6⟩, F0, F1, F2, F3, F4⟩, ⟨C1, C2, C3, C4⟩, Hx, Hr, B0, B1, B2, B3, B4⟩
  ihave B0 := (in_slots c) $$ B0
  icases B0 with ⟨B0, D0⟩
  ihave B1 := (out_slots c) $$ B1
  icases B1 with ⟨B1, D1⟩
  ihave B2 := (halo_slots c) $$ B2
  icases B2 with ⟨B2, D2⟩
  ihave B3 := (stage_slots c) $$ B3
  icases B3 with ⟨B3, D3⟩
  ihave B4 := (edge_slots c) $$ B4
  icases B4 with ⟨B4, D4⟩
  ihave Hx := (x_halves X c).1 $$ Hx
  icases Hx with ⟨Hx, Hy⟩
  ihave Hr := (res_open c) $$ Hr
  icases Hr with ⟨R0, R1, R2, R3, R4, R5, R6, R7⟩
  isplitl [HO]; · iexact HO
  isplitl [F0]; · iexact F0
  isplitl [F1]; · iexact F1
  isplitl [F2]; · iexact F2
  isplitl [F3]; · iexact F3
  isplitl [F4]; · iexact F4
  isplitl [B0]; · iexact B0
  isplitl [D0]; · iexact D0
  isplitl [B1]; · iexact B1
  isplitl [D1]; · iexact D1
  isplitl [B2]; · iexact B2
  isplitl [D2]; · iexact D2
  isplitl [B3]; · iexact B3
  isplitl [D3]; · iexact D3
  isplitl [B4]; · iexact B4
  isplitl [D4]; · iexact D4
  isplitl [Hx]; · iexact Hx
  isplitl [Hy]; · iexact Hy
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [T2]; · iapply (onlyIf_of (HasL c)); iexact T2
  isplitl [T1]; · iapply (onlyIf_of (HasR c)); iexact T1
  isplitl [T3]; · iapply (onlyIf_of (HasR c)); iexact T3
  isplitl [T5]; · iapply (onlyIf_of (HasR c)); iexact T5
  isplitl [T4]; · iapply (onlyIf_of (HasL c)); iexact T4
  isplitl [T6]; · iapply (onlyIf_of (HasL c)); iexact T6
  isplitl [C1]; · iexact C1
  isplitl [C2]; · iexact C2
  isplitl [C3]; · iexact C3
  isplitl [C4]; · iexact C4
  isplitl [A0]; · iexact A0
  isplitl [A1]; · iexact A1
  isplitl [A2]; · iexact A2
  isplitl [A3]; · iexact A3
  iexact A4

/-- A semaphore past its rounds gives its counter back, at zero. -/
theorem close_at (K : Dev nD × Fin 5 → ℕ) (x : Dev nD × Fin 5) {g : GSem nD τ sig} (hg : kcell x = g) :
    iprop(ctx X K ∗ Done X g) ⊢ (iprop(|={Set.univ}=> semVal g 0) : sProp 𝕄) := by
  unfold Done
  iintro ⟨H, ⟨%R, %hR, Ha⟩⟩
  ihave HI := (ctx_inv X K x hg) $$ H
  iapply (Rounds.cell_close ER (Rd X) (Set.mem_univ (K x)) (fun h => h) (R := R) hR)
  isplitl [HI] <;> iassumption

theorem leave (K : Dev nD × Fin 5 → ℕ) :
    iprop(ctx X K ∗ bodyOut X c fullShare.left fullShare.right) ⊢ (iprop(|={Set.univ}=> (owing c 0 ∗ after X c)) : sProp 𝕄) := by
  unfold after scratch bodyOut
  rw [ownSems_eq, barSem_eq]
  iintro ⟨#Hc, HO, F0, F1, F2, F3, F4, B0, D0, B1, D1, B2, D2, B3, D3, B4, D4, Hx, Hy, R0, R1, R2, R3, R4, R5, R6, R7, A0, A1, A2, A3, A4⟩
  imod (close_at X K (c, 0) (g := barCell c) rfl) $$ [A0] with A0
  · isplitr; · iexact Hc
    iexact A0
  imod (close_at X K (c, 1) (g := dmaCell c send0S) rfl) $$ [A1] with A1
  · isplitr; · iexact Hc
    iexact A1
  imod (close_at X K (c, 2) (g := dmaCell c send1S) rfl) $$ [A2] with A2
  · isplitr; · iexact Hc
    iexact A2
  imod (close_at X K (c, 3) (g := dmaCell c recv0S) rfl) $$ [A3] with A3
  · isplitr; · iexact Hc
    iexact A3
  imod (close_at X K (c, 4) (g := dmaCell c recv1S) rfl) $$ [A4] with A4
  · isplitr; · iexact Hc
    iexact A4
  imodintro
  isplitl [HO]; · iexact HO
  isplitl [Hx Hy]
  · iapply (x_halves X c).2
    isplitl [Hx] <;> iassumption
  isplitl [R0 R1 R2 R3 R4 R5 R6 R7]
  · iapply (res_close X c)
    isplitl [R0]; · iexact R0
    isplitl [R1]; · iexact R1
    isplitl [R2]; · iexact R2
    isplitl [R3]; · iexact R3
    isplitl [R4]; · iexact R4
    isplitl [R5]; · iexact R5
    isplitl [R6]; · iexact R6
    iexact R7
  isplitl [A0]; · iexact A0
  isplitl [F0 F1 F2 F3 F4 A1 A2 A3 A4]
  · unfold free
    isplitl [F0]; · iexact F0
    isplitl [F1]; · iexact F1
    isplitl [F2]; · iexact F2
    isplitl [F3]; · iexact F3
    isplitl [F4]; · iexact F4
    isplitl [A1]; · iexact A1
    isplitl [A2]; · iexact A2
    isplitl [A3]; · iexact A3
    iexact A4
  isplitl [B0 D0]
  · iapply (in_whole c)
    isplitl [B0] <;> iassumption
  isplitl [B1 D1]
  · iapply (out_whole c)
    isplitl [B1] <;> iassumption
  isplitl [B2 D2]
  · iapply (halo_whole c)
    isplitl [B2] <;> iassumption
  isplitl [B3 D3]
  · iapply (stage_whole c)
    isplitl [B3] <;> iassumption
  iapply (edge_whole c)
  isplitl [B4] <;> iassumption

/-- The body from what the kernel begins with to what it ends with. -/
theorem body_runs :
    iprop(before X c ∗ owing c (O₀ c))
      ⊢ (runs c (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 : PR F PUnit)
          (fun _ => iprop(owing c 0 ∗ after X c)) : sProp 𝕄) := by
  unfold before start
  iintro ⟨⟨⟨⟨%K, #Hc⟩, Hm, Hd, Hx, Hr⟩, Hs⟩, HO⟩
  ihave HB := (enter X c) $$ [HO Hm Hd Hx Hr Hs]
  · isplitl [HO]; · iexact HO
    isplitl [Hm]; · iexact Hm
    isplitl [Hd]; · iexact Hd
    isplitl [Hx]; · iexact Hx
    isplitl [Hr] <;> iassumption
  iapply (run_body X K c fullShare.left fullShare.right) $$ [HB]
  · isplitr; · iexact Hc
    iexact HB
  iintro H
  iapply (leave X c K)
  isplitr; · iexact Hc
  iexact H

end State

/-! ## The run -/

section Run
variable (m : (ℓ : Loc nD τ sig) → Buf (Elt F) ℓ) (ρ : Dev nD → PrngReg)

/-- The devices' blocks of the argument in a memory. -/
def blocksOf : Blocks F := fun c => m ((c : Thread nD τ).loc main_arg0)

def dats (_ : Fin 1) (c : Dev nD) : Dat τ (Elt F) Unit ℕ UU ℕ cfg0 c where
  A w := m ((cfg0.win w).arr.view.loc (c : Thread nD τ))
  after w _ := w.elim0
  Φ t := match t with
    | ⟨0, _⟩ => before (blocksOf m) c
    | ⟨_ + 1, _⟩ => after (blocksOf m) c
  q _ := fullShare
  owed t := match t with
    | ⟨0, _⟩ => O₀ c
    | ⟨_ + 1, _⟩ => 0

theorem drop_last {A B C D : sProp 𝕄} (h : B ⊢ D) : iprop(A ∗ B ∗ C) ⊢ iprop(A ∗ D) := by
  iintro ⟨HA, HB, -⟩
  isplitl [HA]; · iexact HA
  iapply h; iexact HB

theorem no_windows (Φ : Fin cfg0.W → sProp 𝕄) : (iprop(emp) : sProp 𝕄) ⊢ bigSep Finset.univ Φ := by
  show _ ⊢ bigSep (∅ : Finset (Fin 0)) _
  rw [bigSep_empty]
  exact BI.Entails.refl _

theorem body_obligation (c : Dev nD) : BodyObligation (dats (F := F) m 0 c) (defs₀ (F := F)) 𝒱₀ () Set.univ := fun t => by
  rw [fin_N0 t]
  show iprop(before (blocksOf m) c ∗ (dats m 0 c).owesAt () t0_0.castSucc ∗ _)
    ⊢ runs c (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 : PR F PUnit)
      (fun _ => iprop(after (blocksOf m) c ∗ (dats m 0 c).owesAt () t0_0.succ ∗ _))
  have eIn : ((dats m 0 c).owesAt () t0_0.castSucc : sProp 𝕄) ⊢ owing c (O₀ c) := by
    unfold owing Dat.owesAt Pipeline.owesWithin
    iintro ⟨%W, -, H⟩
    iexists W; iexact H
  have eOut : (owing c 0 : sProp 𝕄) ⊢ (dats m 0 c).owesAt () t0_0.succ := by
    unfold owing Dat.owesAt Pipeline.owesWithin
    rw [show (dats m 0 c).owed t0_0.succ = 0 from rfl]
    iintro ⟨%W, H⟩
    iexists W
    isplitr; · ipureintro; exact fun _ _ => Or.inl trivial
    iexact H
  refine BI.Entails.trans (BI.Entails.trans (drop_last eIn) (body_runs (blocksOf m) c)) (wp_mono _ _ _ fun _ => ?_)
  · iintro ⟨HO, HA⟩
    isplitl [HA]; · iexact HA
    isplitl [HO]; · iapply eOut; iexact HO
    iapply (no_windows (F := F))
    iempintro

theorem inner_records :
    (BI.own (((Emb.inl : Emb UB (UB × Counters)).trans (embR : Emb (UB × Counters) 𝕄)) (initOf cells5 duties6)) : sProp 𝕄) ⊢ BI.own (ER (initOf cells5 duties6)) :=
  Entails.of_eq (by unfold ER embR; rfl)

theorem launch_in (c : Dev nD) :
    iprop(Pipeline.unscopedRestP Pipeline.Prefetch.none cfg0.spec c (fun b => m ((c : Thread nD τ).loc b)) ∗ levAts L lv
        ∗ Pipeline.launchCred O₀ c ∗ prngReg c (ρ c) ∗ part (blocksOf m) c)
      ⊢ |={Set.univ}=> iprop(start (blocksOf m) c ∗ emp) := by
  rw [Pipeline.unscopedRestP_none, unscopedRest0_eq]
  unfold part start shared
  iintro ⟨⟨Hx, Hr⟩, #Hl, Hc, -, ⟨%K, ⟨#HI, #HR⟩, Hm⟩⟩
  ihave Hc := (units (F := F) c) $$ Hc
  imodintro
  isplitl
  · isplitr
    · iexists K
      unfold ctx
      isplitr; · iexact HI
      isplitr; · iexact HR
      iexact Hl
    isplitl [Hm]; · iexact Hm
    isplitl [Hc]; · unfold due; iexact Hc
    isplitl [Hx]; · unfold xAt blocksOf; iexact Hx
    unfold resSome
    iexists _; iexact Hr
  · iempintro

theorem kernel_in (c : Dev nD) :
    iprop(start (blocksOf m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before (blocksOf m) c from rfl, scopedRest0_eq]
  unfold before scratch
  iintro ⟨Hs, -, Hr⟩
  isplitl [Hs] <;> iassumption

/-- What is read of a device after the run. -/
def left (c : Dev nD) : sProp 𝕄 := iprop(unscopedSems0 c ∗ xAt (blocksOf m) c fullShare ∗ resDone (blocksOf m) c)

theorem kernel_out (c : Dev nD) :
    (dats m 0 c).Φ (Fin.last cfg0.N) ⊢ iprop(left m c ∗ Pipeline.ownSems0 osem c ∗ Pipeline.scopedRest cfg0.spec c) := by
  rw [show (dats m 0 c).Φ (Fin.last cfg0.N) = after (blocksOf m) c from rfl, scopedRest0_eq]
  unfold after scratch left
  iintro ⟨Hx, Hr, Hu, Ho, Hs⟩
  isplitl [Hx Hr Hu]
  · isplitl [Hu]; · iexact Hu
    isplitl [Hx] <;> iassumption
  isplitl [Ho] <;> iassumption

/-- After the run a device's own counters are zero, its result is its block of the array's, its argument as before. -/
def Ends (c : Dev nD) (s : MemSt nD τ sig (Elt F)) : Prop :=
  (∀ sm : SemLoc sig, sm.isScoped .tc = false → s.sem ((c.tc : Thread nD τ), sm) = 0)
    ∧ s.mem ((c : Thread nD τ).loc main_v1) = specBlock (blocksOf m) c
    ∧ s.mem ((c : Thread nD τ).loc main_arg0) = m ((c : Thread nD τ).loc main_arg0)

theorem read_end (c : Dev nD) (s' : Phys nD τ sig (Elt F)) :
    iprop(left m c ∗ emp ∗ SI s') ⊢ |={Set.univ}=> iprop(⌜Ends m c s'.mem⌝ ∗ (SI s' : sProp 𝕄)) := by
  have eX : iprop(xAt (blocksOf m) c fullShare ∗ SI s') ⊢ (iprop(⌜s'.mem.mem ((c : Thread nD τ).loc main_arg0) = m ((c : Thread nD τ).loc main_arg0)⌝ ∗ SI s') : sProp 𝕄) := by
    unfold xAt
    iintro ⟨H, HS⟩
    icombine HS H gives %h
    isplitr
    · ipureintro; exact Buf.eq_of_forall_mem_univ h
    iexact HS
  have eR : iprop(resDone (blocksOf m) c ∗ SI s') ⊢ (iprop(⌜s'.mem.mem ((c : Thread nD τ).loc main_v1) = specBlock (blocksOf m) c⌝ ∗ SI s') : sProp 𝕄) := by
    unfold resDone
    iintro ⟨H, HS⟩
    icombine HS H gives %h
    isplitr
    · ipureintro; exact Buf.eq_of_forall_mem_univ h
    iexact HS
  unfold left
  iintro ⟨⟨Hu, Hx, Hr⟩, -, HS⟩
  ihave H := eX $$ [Hx HS]
  · isplitl [Hx] <;> iassumption
  icases H with ⟨%hx, HS⟩
  ihave H := eR $$ [Hr HS]
  · isplitl [Hr] <;> iassumption
  icases H with ⟨%hr, HS⟩
  imod (Pipeline.unscopedSems0_read (X := unscopedSems0 c) (c := c) fupd_intro s') $$ [Hu HS] with ⟨%hu, HS⟩
  · isplitl [Hu] <;> iassumption
  imodintro
  isplitr
  · ipureintro; exact ⟨hu, hr, hx⟩
  iexact HS

/-- The run of the whole program, from any memory with its counters at zero: it ends, and every device then has its block
    of the result, its argument unchanged and all its counters at zero. -/
theorem run_main : θ_run defs (onTc (τ := τ) (main (F := F))) ⟨m, fun _ => 0, ρ⟩ (fun r =>
    (∀ c : Dev nD, r.2.mem ((c : Thread nD τ).loc main_v1) = specBlock (blocksOf m) c
      ∧ r.2.mem ((c : Thread nD τ).loc main_arg0) = m ((c : Thread nD τ).loc main_arg0)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne)
    (hwaits := fun c => Pipeline.cellsWaits_intro cfgs (dats m) () 0 c fun w => w.elim0)
    (G := records (blocksOf m)) (G' := part (blocksOf m)) (u₀ := u₀)
    (hu₀ := by
      unfold u₀
      iintro Hu
      ihave H := (ownU_pair _ _) $$ Hu
      icases H with ⟨HP, HX⟩
      ihave HX := (own_pair_emb (embR : Emb (UB × Counters) 𝕄) _ _) $$ HX
      icases HX with ⟨HX, -⟩
      ihave HX := (inner_records (F := F)) $$ HX
      imod (records_fund (blocksOf m)) $$ HX with HG
      imodintro
      isplitl [HP] <;> iassumption)
    (hglob := deal (blocksOf m))
    (hA := fun _ _ => rfl) (hpf := fun _ k => k.elim0)
    (X := start (blocksOf m)) (Y := left m) (Z := fun _ => iprop(emp))
    (hX := launch_in m ρ) (hin := kernel_in m) (hout := kernel_out m)
    (QY := Ends m)
    (hY := read_end m)
    (hQ := fun _ h hs => ⟨fun c => (h c).2.2.2, sem_eq_zero hs fun c => (h c).2.2.1⟩)

end Run

end Cert.KernelIdealProof
-- ==== Proof.KernelIdeal.Equation.lean ====
/- The reference's array, entry by entry, and the equation of the kernel's blocks with it over the extended reals. -/
module

public import proofs.«01_k».proof.Proof.KernelIdeal.Launch
public import proofs.«01_k».proof.Proof.Gen.ReferenceIdeal.Run
public import Idealize.ShloMosaic.Lib.Layout
public import Idealize.ShloMosaic.Lib.IdealHost
public import Idealize.ShloMosaic.Lib.Pipeline.Value

@[expose] public section

noncomputable section

namespace Cert.Equation

open Idealize.ShloMosaic Idealize.ShloMosaic.TcCoe Idealize.SL.Sem

section Reference
open Cert.ReferenceIdeal Cert.ReferenceIdeal.Gen
variable (V : S8192x1024.Idx → Ideal .bf16)

/-- The blended rows alone. -/
def inner : S8190x1024.Idx → Ideal .bf16 :=
  (addf (addf (mulf (broadcastInDim S8190x1024 ![] bcast_S_S8190x1024 (constant S_ .bf16 0x3E80#16)) (extractStridedSlice S8190x1024 ![0, 0] V slices_S8192x1024_S8190x1024_0_0)) (mulf (broadcastInDim S8190x1024 ![] bcast_S_S8190x1024 (constant S_ .bf16 0x3F00#16)) (extractStridedSlice S8190x1024 ![1, 0] V slices_S8192x1024_S8190x1024_1_0))) (mulf (broadcastInDim S8190x1024 ![] bcast_S_S8190x1024 (constant S_ .bf16 0x3E80#16)) (extractStridedSlice S8190x1024 ![2, 0] V slices_S8192x1024_S8190x1024_2_0)))

/-- Its three pieces: the first row, the blended rows, the last row. -/
def pieces : List ((s : Shape) × (s.Idx → Ideal .bf16)) :=
  [⟨S1x1024, extractStridedSlice S1x1024 ![0, 0] V slices_S8192x1024_S1x1024_0_0⟩, ⟨S8190x1024, inner V⟩,
    ⟨S1x1024, extractStridedSlice S1x1024 ![8191, 0] V slices_S8192x1024_S1x1024_8191_0⟩]

/-- The array the reference computes from its argument. -/
def refArray : S8192x1024.Idx → Ideal .bf16 :=
  concatenate S8192x1024 0 (pieces V) concatenates_S1x1024_S8190x1024_S1x1024_S8192x1024_d0

/-- An entry of the result in its `k`-th piece, whose rows begin at row `pre`, is that piece's entry. -/
theorem piece_apply (j : S8192x1024.Idx) (k : ℕ) (hk : k < (pieces V).length) (n : ℕ) (x : (⟨2, ![n, 1024]⟩ : Shape).Idx → Ideal .bf16)
    (hx : (pieces V)[k] = ⟨⟨2, ![n, 1024]⟩, x⟩) (pre : ℕ)
    (hpre : ((((pieces V).take k).map (·.1)).map fun s => if h : s.rank = 2 then s.size ((0 : Fin 2).cast h.symm) else 0).sum = pre)
    (i : (⟨2, ![n, 1024]⟩ : Shape).Idx) (h0 : pre + (i 0).val = (j 0).val) (h1 : (i 1).val = (j 1).val) : refArray V j = x i := by
  unfold refArray
  refine concatenate_apply_piece 0 (pieces V) _ j k hk ⟨2, ![n, 1024]⟩ x hx rfl pre hpre i (fun b hb => ?_) h0
  fin_cases b
  · exact absurd rfl hb
  · exact h1

/-- An entry of the argument by its row and column. -/
abbrev at2 (g : ℕ) (hg : g < 8192) (col : Fin 1024) : Ideal .bf16 := V (ValueIdx.ix2 (⟨g, hg⟩ : Fin 8192) col)

/-- A blended entry is the weighted sum of three consecutive rows' entries. -/
theorem inner_apply (r : ℕ) (hr : r < 8190) (col : Fin 1024) :
    inner V (ValueIdx.ix2 (⟨r, hr⟩ : Fin 8190) col)
      = (Ideal.ofBits .bf16 0x3E80#16 * at2 V r (by omega) col + Ideal.ofBits .bf16 0x3F00#16 * at2 V (r + 1) (by omega) col)
        + Ideal.ofBits .bf16 0x3E80#16 * at2 V (r + 2) (by omega) col := by
  have s (o : ℕ) (ho : o ≤ 2) (h : S8192x1024.Slices ![o, 0] S8190x1024) :
      extractStridedSlice S8190x1024 ![o, 0] V h (ValueIdx.ix2 (⟨r, hr⟩ : Fin 8190) col) = at2 V (r + o) (by omega) col :=
    extractStridedSlice_apply _ V h _ _ fun a => by
      fin_cases a
      · show r + o = o + r
        exact Nat.add_comm _ _
      · show col.val = 0 + col.val
        exact (Nat.zero_add _).symm
  have b (k : BitVec 16) (h : S_.BroadcastsInDim S8190x1024 (![] : Fin 0 → Fin S8190x1024.rank)) (j : S8190x1024.Idx) :
      broadcastInDim S8190x1024 ![] h (constant (F := Ideal) S_ .bf16 k) j = Ideal.ofBits .bf16 k :=
    ValueIdx.broadcastInDim_scalar_apply h _ j
  unfold inner
  show (_ * _ + _ * _) + _ * _ = _
  rw [b, b, s 0 (by omega), s 1 (by omega), s 2 (by omega)]
  rfl

/-- The result's first row is the argument's. -/
theorem refArray_first (col : Fin 1024) : refArray V (ValueIdx.ix2 (⟨0, by decide⟩ : Fin 8192) col) = at2 V 0 (by decide) col := by
  refine (piece_apply V _ 0 (show 0 < 3 by decide) 1 _ rfl 0 rfl (ValueIdx.ix2 (⟨0, by decide⟩ : Fin 1) col) rfl rfl).trans ?_
  exact extractStridedSlice_apply _ V _ _ _ fun a => by
    fin_cases a
    · rfl
    · show col.val = 0 + col.val
      exact (Nat.zero_add _).symm

/-- The result's last row is the argument's. -/
theorem refArray_last (col : Fin 1024) : refArray V (ValueIdx.ix2 (⟨8191, by decide⟩ : Fin 8192) col) = at2 V 8191 (by decide) col := by
  refine (piece_apply V _ 2 (show 2 < 3 by decide) 1 _ rfl 8191 (by simp [pieces]) (ValueIdx.ix2 (⟨0, by decide⟩ : Fin 1) col) (show 8191 + 0 = 8191 from Nat.add_zero _) rfl).trans ?_
  exact extractStridedSlice_apply _ V _ _ _ fun a => by
    fin_cases a
    · show 8191 = 8191 + 0
      exact (Nat.add_zero _).symm
    · show col.val = 0 + col.val
      exact (Nat.zero_add _).symm

/-- Every other row of the result is the blended row before it. -/
theorem refArray_inner (g : ℕ) (h0 : 0 < g) (h1 : g < 8191) (col : Fin 1024) :
    refArray V (ValueIdx.ix2 (⟨g, by omega⟩ : Fin 8192) col) = inner V (ValueIdx.ix2 (⟨g - 1, by omega⟩ : Fin 8190) col) :=
  piece_apply V _ 1 (show 1 < 3 by decide) 8190 _ rfl 1 rfl (ValueIdx.ix2 (⟨g - 1, by omega⟩ : Fin 8190) col)
    (show 1 + (g - 1) = g by omega) rfl

end Reference

/-! ## The equation -/

section Equation
open Cert.KernelIdeal Cert.KernelIdealProof

/-- The bits of the outer weight are a quarter. -/
theorem quarter : Ideal.ofBits .bf16 0x3E80#16 = (((1 : ℝ) / 4 : ℝ) : EReal) := by
  simp [Ideal.ofBits, Ideal.ieee]
  rw [← EReal.coe_mul]
  norm_num

/-- Over the extended reals, a quarter of the sum of the outer rows and a half of the middle one is the weighted sum of the three. -/
theorem blend_eq (a b d : Ideal .bf16) :
    blend a b d = (Ideal.ofBits .bf16 0x3E80#16 * a + Ideal.ofBits .bf16 0x3F00#16 * b) + Ideal.ofBits .bf16 0x3E80#16 * d := by
  have hq : (0 : EReal) ≤ Ideal.ofBits .bf16 0x3E80#16 := by rw [quarter]; exact EReal.coe_nonneg.2 (by norm_num)
  have ht : (Ideal.ofBits .bf16 0x3E80#16 : EReal) ≠ ⊤ := by rw [quarter]; exact EReal.coe_ne_top _
  have e : blend a b d = ((a + d) * Ideal.ofBits .bf16 0x3E80#16 + b * Ideal.ofBits .bf16 0x3F00#16 : EReal) := rfl
  rw [e, EReal.right_distrib_of_nonneg_of_ne_top hq ht, mul_comm a, mul_comm d, mul_comm b]
  exact add_right_comm _ _ _

variable (V : Cert.ReferenceIdeal.S8192x1024.Idx → Ideal .bf16) (X : Blocks Ideal)

/-- A row of the devices' blocks is the row of the whole array. -/
theorem gx_eq
    (hX : ∀ c, X c = Layout.block ⟨2, ![2048, 1024]⟩ ⟨2, ![8192, 1024]⟩ 0 4 c V)
    (g : ℕ) (hg : g < 8192) (col : Fin 1024) : gx X g col = at2 V g hg col := by
  unfold gx
  rw [hX, Layout.block_apply]
  refine congrArg V (funext fun a => Fin.ext ?_)
  fin_cases a
  · show (g / 2048 % 4) * 2048 + g % 2048 = g
    omega
  · rfl

/-- A row of what the kernel computes is that row of what the reference computes. -/
theorem specRow_eq
    (hX : ∀ c, X c = Layout.block ⟨2, ![2048, 1024]⟩ ⟨2, ![8192, 1024]⟩ 0 4 c V)
    (g : ℕ) (hg : g < 8192) (col : Fin 1024) : specRow X g col = refArray V (ValueIdx.ix2 (⟨g, hg⟩ : Fin 8192) col) := by
  unfold specRow
  by_cases h : g = 0 ∨ g = 8191
  · rw [if_pos h, gx_eq V X hX g hg]
    rcases h with rfl | rfl
    · exact (refArray_first V col).symm
    · exact (refArray_last V col).symm
  · have h0 : 0 < g := by omega
    have h1 : g < 8191 := by omega
    rw [if_neg h, gx_eq V X hX (g - 1) (by omega), gx_eq V X hX g hg, gx_eq V X hX (g + 1) (by omega), blend_eq,
      refArray_inner V g h0 h1 col, inner_apply V (g - 1) (by omega) col]
    have e1 : g - 1 + 1 = g := by omega
    have e2 : g - 1 + 2 = g + 1 := by omega
    simp only [e1, e2]

/-- Each device's block of the result is its block of the reference's array. -/
theorem block_eq
    (hX : ∀ c, X c = Layout.block ⟨2, ![2048, 1024]⟩ ⟨2, ![8192, 1024]⟩ 0 4 c V)
    (c : Dev nD) : specBlock X c = Layout.block ⟨2, ![2048, 1024]⟩ ⟨2, ![8192, 1024]⟩ 0 4 c (refArray V) := by
  funext j
  have hj : (j 0).val < 2048 := (j 0).isLt
  have hc : c.val < 4 := c.isLt
  rw [Layout.block_apply]
  unfold specBlock
  rw [specRow_eq V X hX _ (by omega)]
  refine congrArg (refArray V) (funext fun a => Fin.ext ?_)
  fin_cases a <;> rfl

end Equation

end Cert.Equation
-- ==== Proof.lean ====
module

public import proofs.«01_k».proof.Defs
public import proofs.«01_k».proof.Proof.Gen.ReferenceIdeal.Run
public import proofs.«01_k».proof.Proof.KernelIdeal.Launch
public import proofs.«01_k».proof.Proof.Kernel.Launch
public import proofs.«01_k».proof.Proof.KernelIdeal.Equation
public import Idealize.ShloMosaic.Lib.Quiescent
public import Idealize.ShloMosaic.Adequacy
public import Idealize.ShloMosaic.Init

@[expose] public section

noncomputable section

namespace Cert.Proof

open Idealize.ShloMosaic Idealize.SL.Sem

/-- The kernel runs with its argument unchanged and every semaphore counter back at zero. -/
theorem frame_kernel : Cert.quiescent_Kernel := fun m g _ =>
  (θ_run _ _ _).mono (fun _ h => ⟨fun c => (h.1 c).2, h.2⟩) (Cert.KernelProof.run_main m g)

/-- So does the kernel over the reals. -/
theorem frame_ideal : Cert.quiescent_KernelIdeal := fun m g _ =>
  (θ_run _ _ _).mono (fun _ h => ⟨fun c => (h.1 c).2, h.2⟩) (Cert.KernelIdealProof.run_main m g)

/-- So does the reference, which has no semaphore. -/
theorem frame_reference : Cert.quiescent_ReferenceIdeal := fun m g _ =>
  (θ_run _ _ _).mono (fun r h => ⟨fun c => (h c).2, sem_eq_zero_of_no_sems (by decide) r.2⟩) (Cert.ReferenceIdeal.Value.run m g)

/-- Over the reals the four devices' results are the blocks of the reference's result. -/
theorem equation : Cert.algebraic_KernelIdeal_ReferenceIdeal := fun m g m' g' _ hX =>
  ⟨Cert.Equation.refArray (m' (((0 : Dev Cert.ReferenceIdeal.nD).tc : Thread _ Cert.ReferenceIdeal.τ).loc Cert.ReferenceIdeal.main_arg0)),
    (θ_run _ _ _).mono (fun _ h c => ⟨(h.1 c).1.trans (Cert.Equation.block_eq _ _ hX c), (h.1 c).2⟩) (Cert.KernelIdealProof.run_main m g),
    (θ_run _ _ _).mono (fun _ h => h 0) (Cert.ReferenceIdeal.Value.run m' g')⟩

theorem claim : Cert.Claim := ⟨Cert.Kernel.Gen.facts, Cert.KernelIdeal.Gen.facts, Cert.ReferenceIdeal.Gen.facts,
  frame_kernel, frame_ideal, frame_reference, trivial, equation⟩

end Cert.Proof

end
